-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal (hKernelIdeal := hKernelIdeal) (hReferenceIdeal := hReferenceIdeal) (hPre_routed := hPre_routed)
-- ==== Pre_routed.lean ====
abbrev S8960x2048 : Shape := ⟨2, ![8960, 2048]⟩
abbrev S8960x16 : Shape := ⟨2, ![8960, 16]⟩
abbrev S2048x180224 : Shape := ⟨2, ![2048, 180224]⟩
abbrev S16x1408 : Shape := ⟨2, ![16, 1408]⟩
abbrev S90112x2048 : Shape := ⟨2, ![90112, 2048]⟩
abbrev S704x16 : Shape := ⟨2, ![704, 16]⟩
abbrev S70x11 : Shape := ⟨2, ![70, 11]⟩
abbrev S70x1 : Shape := ⟨2, ![70, 1]⟩
abbrev S_ : Shape := ⟨0, ![]⟩

class Facts : Prop where
  slices_S70x11_S70x1_0_0 : S70x11.Slices ![0, 0] S70x1
  bcast_S70x1_S70x11_0_1 : S70x1.BroadcastsInDim S70x11 (![0, 1] : Fin 2 → Fin S70x11.rank)
  bcast_S_S70x1 : S_.BroadcastsInDim S70x1 (![] : Fin 0 → Fin S70x1.rank)

variable [Facts]

def fn {F : FTy → Type} [FloatOps F] (main_arg0 : FVec F S8960x2048 .fp8e4m3) (main_arg1 : FVec F S8960x16 .f32) (main_arg2 : FVec F S2048x180224 .fp8e4m3) (main_arg3 : FVec F S16x1408 .f32) (main_arg4 : FVec F S90112x2048 .fp8e4m3) (main_arg5 : FVec F S704x16 .f32) (main_arg6 : IVec S70x11 32) : IVec S70x11 1 × IVec S70x1 1 × IVec S70x1 1 × IVec S70x1 1 :=
  let main_v0 : IVec S70x1 32 := (extractStridedSlice S70x1 ![0, 0] · slices_S70x11_S70x1_0_0) main_arg6
  let main_v1 : IVec S70x11 32 := iotaInDim S70x11 32 1
  let main_v2 : IVec S70x11 32 := broadcastInDim S70x11 ![0, 1] bcast_S70x1_S70x11_0_1 main_v0
  let main_v3 : IVec S70x11 32 := addi main_v2 main_v1
  let main_v4 : IVec S70x11 1 := cmpi .eq main_arg6 main_v3
  let main_c : IVec S_ 32 := constantI S_ 32 0#32
  let main_v5 : IVec S70x1 32 := broadcastInDim S70x1 ![] bcast_S_S70x1 main_c
  let main_v6 : IVec S70x1 1 := cmpi .sge main_v0 main_v5
  let main_c_0 : IVec S_ 32 := constantI S_ 32 704#32
  let main_v7 : IVec S70x1 32 := broadcastInDim S70x1 ![] bcast_S_S70x1 main_c_0
  let main_v8 : IVec S70x1 1 := cmpi .slt main_v0 main_v7
  let main_c_1 : IVec S_ 32 := constantI S_ 32 11#32
  let main_v9 : IVec S70x1 32 := broadcastInDim S70x1 ![] bcast_S_S70x1 main_c_1
  let main_v10 : IVec S70x1 32 := Host.remsi main_v0 main_v9
  let main_c_2 : IVec S_ 32 := constantI S_ 32 0#32
  let main_v11 : IVec S70x1 32 := broadcastInDim S70x1 ![] bcast_S_S70x1 main_c_2
  let main_v12 : IVec S70x1 1 := cmpi .eq main_v10 main_v11
  (main_v4, main_v6, main_v8, main_v12)
-- ==== Kernel.lean ====
abbrev S8960x2048 : Shape := ⟨2, ![8960, 2048]⟩
abbrev S8960x16 : Shape := ⟨2, ![8960, 16]⟩
abbrev S2048x180224 : Shape := ⟨2, ![2048, 180224]⟩
abbrev S16x1408 : Shape := ⟨2, ![16, 1408]⟩
abbrev S90112x2048 : Shape := ⟨2, ![90112, 2048]⟩
abbrev S704x16 : Shape := ⟨2, ![704, 16]⟩
abbrev S70x11 : Shape := ⟨2, ![70, 11]⟩
abbrev S70x1 : Shape := ⟨2, ![70, 1]⟩
abbrev S70 : Shape := ⟨1, ![70]⟩
abbrev S_ : Shape := ⟨0, ![]⟩
abbrev S16x2x64x11 : Shape := ⟨4, ![16, 2, 64, 11]⟩
abbrev S64x16x2x11 : Shape := ⟨4, ![64, 16, 2, 11]⟩
abbrev S64x352 : Shape := ⟨2, ![64, 352]⟩
abbrev S64x176 : Shape := ⟨2, ![64, 176]⟩
abbrev S64x528 : Shape := ⟨2, ![64, 528]⟩
abbrev S64x1x528 : Shape := ⟨3, ![64, 1, 528]⟩
abbrev S8960x1408 : Shape := ⟨2, ![8960, 1408]⟩
abbrev S8960x11 : Shape := ⟨2, ![8960, 11]⟩
abbrev S1x1x528 : Shape := ⟨3, ![1, 1, 528]⟩
abbrev S1 : Shape := ⟨1, ![1]⟩
abbrev S128x2048 : Shape := ⟨2, ![128, 2048]⟩
abbrev S128x16 : Shape := ⟨2, ![128, 16]⟩
abbrev S2048x1408 : Shape := ⟨2, ![2048, 1408]⟩
abbrev S1408x2048 : Shape := ⟨2, ![1408, 2048]⟩
abbrev S128x1408 : Shape := ⟨2, ![128, 1408]⟩
abbrev S128x11 : Shape := ⟨2, ![128, 11]⟩
abbrev S128x1 : Shape := ⟨2, ![128, 1]⟩
abbrev S128x128 : Shape := ⟨2, ![128, 128]⟩
abbrev S1x1x1 : Shape := ⟨3, ![1, 1, 1]⟩
abbrev S128x256 : Shape := ⟨2, ![128, 256]⟩
abbrev S256x256 : Shape := ⟨2, ![256, 256]⟩
abbrev S128 : Shape := ⟨1, ![128]⟩

abbrev nBuf : Space → Nat
  | .hbm => 35
  | .vmem => 18
  | .smem => 3
  | _ => 0

abbrev bufTy : (tb : Table) → Fin (tcTables nBuf tb) → BufTy
  | .hbm, ⟨0, _⟩ => ⟨S8960x2048, .fp8e4m3⟩
  | .hbm, ⟨1, _⟩ => ⟨S8960x16, .f32⟩
  | .hbm, ⟨2, _⟩ => ⟨S2048x180224, .fp8e4m3⟩
  | .hbm, ⟨3, _⟩ => ⟨S16x1408, .f32⟩
  | .hbm, ⟨4, _⟩ => ⟨S90112x2048, .fp8e4m3⟩
  | .hbm, ⟨5, _⟩ => ⟨S704x16, .f32⟩
  | .hbm, ⟨6, _⟩ => ⟨S70x11, .i32⟩
  | .hbm, ⟨7, _⟩ => ⟨S70x1, .i32⟩
  | .hbm, ⟨8, _⟩ => ⟨S70, .i32⟩
  | .hbm, ⟨9, _⟩ => ⟨S_, .i32⟩
  | .hbm, ⟨10, _⟩ => ⟨S_, .i32⟩
  | .hbm, ⟨11, _⟩ => ⟨S70, .i32⟩
  | .hbm, ⟨12, _⟩ => ⟨S70, .i32⟩
  | .hbm, ⟨13, _⟩ => ⟨S70, .i32⟩
  | .hbm, ⟨14, _⟩ => ⟨S_, .i32⟩
  | .hbm, ⟨15, _⟩ => ⟨S70, .i32⟩
  | .hbm, ⟨16, _⟩ => ⟨S70, .i1⟩
  | .hbm, ⟨17, _⟩ => ⟨S70, .i32⟩
  | .hbm, ⟨18, _⟩ => ⟨S70, .i32⟩
  | .hbm, ⟨19, _⟩ => ⟨S_, .i32⟩
  | .hbm, ⟨20, _⟩ => ⟨S70, .i32⟩
  | .hbm, ⟨21, _⟩ => ⟨S70, .i1⟩
  | .hbm, ⟨22, _⟩ => ⟨S70, .i1⟩
  | .hbm, ⟨23, _⟩ => ⟨S_, .i32⟩
  | .hbm, ⟨24, _⟩ => ⟨S70, .i32⟩
  | .hbm, ⟨25, _⟩ => ⟨S70, .i32⟩
  | .hbm, ⟨26, _⟩ => ⟨S16x2x64x11, .f32⟩
  | .hbm, ⟨27, _⟩ => ⟨S64x16x2x11, .f32⟩
  | .hbm, ⟨28, _⟩ => ⟨S64x352, .f32⟩
  | .hbm, ⟨29, _⟩ => ⟨S64x176, .f32⟩
  | .hbm, ⟨30, _⟩ => ⟨S64x528, .f32⟩
  | .hbm, ⟨31, _⟩ => ⟨S64x1x528, .f32⟩
  | .hbm, ⟨32, _⟩ => ⟨S8960x2048, .bf16⟩
  | .hbm, ⟨33, _⟩ => ⟨S8960x1408, .fp8e4m3⟩
  | .hbm, ⟨34, _⟩ => ⟨S8960x11, .f32⟩
  | .local _ .vmem, ⟨0, _⟩ => ⟨S128x2048, .fp8e4m3⟩
  | .local _ .vmem, ⟨1, _⟩ => ⟨S128x2048, .fp8e4m3⟩
  | .local _ .vmem, ⟨2, _⟩ => ⟨S128x16, .f32⟩
  | .local _ .vmem, ⟨3, _⟩ => ⟨S128x16, .f32⟩
  | .local _ .vmem, ⟨4, _⟩ => ⟨S2048x1408, .fp8e4m3⟩
  | .local _ .vmem, ⟨5, _⟩ => ⟨S2048x1408, .fp8e4m3⟩
  | .local _ .vmem, ⟨6, _⟩ => ⟨S2048x1408, .fp8e4m3⟩
  | .local _ .vmem, ⟨7, _⟩ => ⟨S2048x1408, .fp8e4m3⟩
  | .local _ .vmem, ⟨8, _⟩ => ⟨S1408x2048, .fp8e4m3⟩
  | .local _ .vmem, ⟨9, _⟩ => ⟨S1408x2048, .fp8e4m3⟩
  | .local _ .vmem, ⟨10, _⟩ => ⟨S128x2048, .bf16⟩
  | .local _ .vmem, ⟨11, _⟩ => ⟨S128x2048, .bf16⟩
  | .local _ .vmem, ⟨12, _⟩ => ⟨S128x1408, .fp8e4m3⟩
  | .local _ .vmem, ⟨13, _⟩ => ⟨S128x1408, .fp8e4m3⟩
  | .local _ .vmem, ⟨14, _⟩ => ⟨S128x11, .f32⟩
  | .local _ .vmem, ⟨15, _⟩ => ⟨S128x11, .f32⟩
  | .local _ .vmem, ⟨16, _⟩ => ⟨S128x2048, .bf16⟩
  | .local _ .vmem, ⟨17, _⟩ => ⟨S128x1408, .bf16⟩
  | .local _ .smem, ⟨0, _⟩ => ⟨S70, .i32⟩
  | .local _ .smem, ⟨1, _⟩ => ⟨S1x1x528, .f32⟩
  | .local _ .smem, ⟨2, _⟩ => ⟨S1x1x528, .f32⟩
  | _, _ => ⟨S8960x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9_0 : Ref sig .tc := ⟨.hbm, 32, rfl⟩
abbrev main_v9_1 : Ref sig .tc := ⟨.hbm, 33, rfl⟩
abbrev main_v9_2 : Ref sig .tc := ⟨.hbm, 34, rfl⟩
abbrev main_v2 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 1, rfl⟩
abbrev cc0_stg0_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![70], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c11_i32 : BitVec 32 := 11#32
  let v160 : BitVec 32 := Scalar.addi c0_i32 c11_i32
  let c1_i32 : BitVec 32 := 1#32
  ⟨c0_i32, v160, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  v162
def k0_off2 (k0_t1 : Fin k0_t1_loop.trips) : Fin 2 → Nat :=
  let c0_69 : Index := 0#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v164 : Index := Scalar.indexCast v163
  ![0, v164.toNat]
def k0_off3 (k0_t1 : Fin k0_t1_loop.trips) (c0_i32_70 : BitVec 32) : Fin 3 → Nat :=
  let c0_71 : Index := 0#32
  let c0_72 : Index := 0#32
  let c0_i32 : BitVec 32 := 0#32
  let c1_i32 : BitVec 32 := 1#32
  let arg13 : BitVec 32 := Scf.iv c0_i32 c1_i32 k0_t1
  let v167 : BitVec 32 := Scalar.addi c0_i32_70 arg13
  let v168 : Index := Scalar.indexCast v167
  ![0, 0, v168.toNat]
def k0_off4 (k0_t1 : Fin k0_t1_loop.trips) : Fin 2 → Nat :=
  let c128_77 : Index := 128#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v183 : Index := Scalar.indexCast v163
  ![128, v183.toNat]
def k0_off5 (k0_t1 : Fin k0_t1_loop.trips) : Fin 2 → Nat :=
  let c256_85 : Index := 256#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v205 : Index := Scalar.indexCast v163
  ![256, v205.toNat]
def k0_off6 (k0_t1 : Fin k0_t1_loop.trips) : Fin 2 → Nat :=
  let c384_91 : Index := 384#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v224 : Index := Scalar.indexCast v163
  ![384, v224.toNat]
def k0_off7 (k0_t1 : Fin k0_t1_loop.trips) : Fin 2 → Nat :=
  let c512_100 : Index := 512#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v247 : Index := Scalar.indexCast v163
  ![512, v247.toNat]
def k0_off8 (k0_t1 : Fin k0_t1_loop.trips) : Fin 2 → Nat :=
  let c640_106 : Index := 640#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v266 : Index := Scalar.indexCast v163
  ![640, v266.toNat]
def k0_off9 (k0_t1 : Fin k0_t1_loop.trips) : Fin 2 → Nat :=
  let c768_115 : Index := 768#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v289 : Index := Scalar.indexCast v163
  ![768, v289.toNat]
def k0_off10 (k0_t1 : Fin k0_t1_loop.trips) : Fin 2 → Nat :=
  let c896_121 : Index := 896#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v308 : Index := Scalar.indexCast v163
  ![896, v308.toNat]
def k0_off11 (k0_t1 : Fin k0_t1_loop.trips) : Fin 2 → Nat :=
  let c1024_130 : Index := 1024#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v331 : Index := Scalar.indexCast v163
  ![1024, v331.toNat]
def k0_off12 (k0_t1 : Fin k0_t1_loop.trips) : Fin 2 → Nat :=
  let c1152_136 : Index := 1152#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v350 : Index := Scalar.indexCast v163
  ![1152, v350.toNat]
def k0_off13 (k0_t1 : Fin k0_t1_loop.trips) : Fin 2 → Nat :=
  let c1280_145 : Index := 1280#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v373 : Index := Scalar.indexCast v163
  ![1280, v373.toNat]
def k0_off14 (k0_t1 : Fin k0_t1_loop.trips) : Fin 2 → Nat :=
  let c1408_151 : Index := 1408#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v392 : Index := Scalar.indexCast v163
  ![1408, v392.toNat]
def k0_off15 (k0_t1 : Fin k0_t1_loop.trips) : Fin 2 → Nat :=
  let c1536_160 : Index := 1536#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v415 : Index := Scalar.indexCast v163
  ![1536, v415.toNat]
def k0_off16 (k0_t1 : Fin k0_t1_loop.trips) : Fin 2 → Nat :=
  let c1664_166 : Index := 1664#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v434 : Index := Scalar.indexCast v163
  ![1664, v434.toNat]
def k0_off17 (k0_t1 : Fin k0_t1_loop.trips) : Fin 2 → Nat :=
  let c1792_175 : Index := 1792#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v457 : Index := Scalar.indexCast v163
  ![1792, v457.toNat]
def k0_off18 (k0_t1 : Fin k0_t1_loop.trips) : Fin 2 → Nat :=
  let c1920_181 : Index := 1920#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v476 : Index := Scalar.indexCast v163
  ![1920, v476.toNat]
def k0_off19 (k0_t1 : Fin k0_t1_loop.trips) : Fin 2 → Nat :=
  let c0_208 : Index := 0#32
  let c0_i32 : BitVec 32 := 0#32
  let c1_i32 : BitVec 32 := 1#32
  let arg13 : BitVec 32 := Scf.iv c0_i32 c1_i32 k0_t1
  let c128_i32 : BitVec 32 := 128#32
  let v162 : BitVec 32 := Scalar.muli arg13 c128_i32
  let v163 : BitVec 32 := v162
  let v589 : Index := Scalar.indexCast v163
  ![0, v589.toNat]
def k0_off20 (k0_t1 : Fin k0_t1_loop.trips) : Fin 2 → Nat :=
  let c0_209 : Index := 0#32
  let c0_i32 : BitVec 32 := 0#32
  let c1_i32 : BitVec 32 := 1#32
  let arg13 : BitVec 32 := Scf.iv c0_i32 c1_i32 k0_t1
  let v591 : Index := Scalar.indexCast arg13
  ![0, v591.toNat]
@[reducible] def k0_t2_loop : Scf.Loop 32 :=
  let c0_i32_66 : BitVec 32 := 0#32
  let c8_i32 : BitVec 32 := 8#32
  let v161 : BitVec 32 := Scalar.addi c0_i32_66 c8_i32
  let c1_i32_67 : BitVec 32 := 1#32
  ⟨c0_i32_66, v161, c1_i32_67⟩
def k0_mult2 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_69 : BitVec 32 := 0#32
  let v163 : BitVec 32 := Scalar.addi v162 c0_i32_69
  let c128_i32 : BitVec 32 := 128#32
  let v164 : BitVec 32 := Scalar.muli v163 c128_i32
  v164
def k0_off21 (k0_t2 : Fin k0_t2_loop.trips) (c0_i32_69 : BitVec 32) : Fin 2 → Nat :=
  let c0_70 : Index := 0#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v163 : BitVec 32 := Scalar.addi v162 c0_i32_69
  let c128_i32 : BitVec 32 := 128#32
  let v164 : BitVec 32 := Scalar.muli v163 c128_i32
  let v165 : BitVec 32 := v164
  let v166 : Index := Scalar.indexCast v165
  ![0, v166.toNat]
def k0_off22 (k0_t2 : Fin k0_t2_loop.trips) (c352_i32 : BitVec 32) (c0_i32_71 : BitVec 32) : Fin 3 → Nat :=
  let c0_72 : Index := 0#32
  let c0_73 : Index := 0#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v169 : BitVec 32 := Scalar.addi c352_i32 v162
  let v170 : BitVec 32 := Scalar.addi v169 c0_i32_71
  let v171 : Index := Scalar.indexCast v170
  ![0, 0, v171.toNat]
def k0_mult3 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_74 : BitVec 32 := 1#32
  let v176 : BitVec 32 := Scalar.addi v162 c1_i32_74
  let c128_i32_75 : BitVec 32 := 128#32
  let v177 : BitVec 32 := Scalar.muli v176 c128_i32_75
  v177
def k0_mult4 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_81 : BitVec 32 := 0#32
  let v190 : BitVec 32 := Scalar.addi v162 c0_i32_81
  let c128_i32_82 : BitVec 32 := 128#32
  let v191 : BitVec 32 := Scalar.muli v190 c128_i32_82
  v191
def k0_off23 (k0_t2 : Fin k0_t2_loop.trips) (c0_i32_81 : BitVec 32) : Fin 2 → Nat :=
  let c128_83 : Index := 128#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v190 : BitVec 32 := Scalar.addi v162 c0_i32_81
  let c128_i32_82 : BitVec 32 := 128#32
  let v191 : BitVec 32 := Scalar.muli v190 c128_i32_82
  let v192 : BitVec 32 := v191
  let v193 : Index := Scalar.indexCast v192
  ![128, v193.toNat]
def k0_mult5 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_87 : BitVec 32 := 1#32
  let v203 : BitVec 32 := Scalar.addi v162 c1_i32_87
  let c128_i32_88 : BitVec 32 := 128#32
  let v204 : BitVec 32 := Scalar.muli v203 c128_i32_88
  v204
def k0_mult6 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_96 : BitVec 32 := 0#32
  let v220 : BitVec 32 := Scalar.addi v162 c0_i32_96
  let c128_i32_97 : BitVec 32 := 128#32
  let v221 : BitVec 32 := Scalar.muli v220 c128_i32_97
  v221
def k0_off24 (k0_t2 : Fin k0_t2_loop.trips) (c0_i32_96 : BitVec 32) : Fin 2 → Nat :=
  let c256_98 : Index := 256#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v220 : BitVec 32 := Scalar.addi v162 c0_i32_96
  let c128_i32_97 : BitVec 32 := 128#32
  let v221 : BitVec 32 := Scalar.muli v220 c128_i32_97
  let v222 : BitVec 32 := v221
  let v223 : Index := Scalar.indexCast v222
  ![256, v223.toNat]
def k0_mult7 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_102 : BitVec 32 := 1#32
  let v233 : BitVec 32 := Scalar.addi v162 c1_i32_102
  let c128_i32_103 : BitVec 32 := 128#32
  let v234 : BitVec 32 := Scalar.muli v233 c128_i32_103
  v234
def k0_mult8 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_109 : BitVec 32 := 0#32
  let v247 : BitVec 32 := Scalar.addi v162 c0_i32_109
  let c128_i32_110 : BitVec 32 := 128#32
  let v248 : BitVec 32 := Scalar.muli v247 c128_i32_110
  v248
def k0_off25 (k0_t2 : Fin k0_t2_loop.trips) (c0_i32_109 : BitVec 32) : Fin 2 → Nat :=
  let c384_111 : Index := 384#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v247 : BitVec 32 := Scalar.addi v162 c0_i32_109
  let c128_i32_110 : BitVec 32 := 128#32
  let v248 : BitVec 32 := Scalar.muli v247 c128_i32_110
  let v249 : BitVec 32 := v248
  let v250 : Index := Scalar.indexCast v249
  ![384, v250.toNat]
def k0_mult9 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_115 : BitVec 32 := 1#32
  let v260 : BitVec 32 := Scalar.addi v162 c1_i32_115
  let c128_i32_116 : BitVec 32 := 128#32
  let v261 : BitVec 32 := Scalar.muli v260 c128_i32_116
  v261
def k0_mult10 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_125 : BitVec 32 := 0#32
  let v278 : BitVec 32 := Scalar.addi v162 c0_i32_125
  let c128_i32_126 : BitVec 32 := 128#32
  let v279 : BitVec 32 := Scalar.muli v278 c128_i32_126
  v279
def k0_off26 (k0_t2 : Fin k0_t2_loop.trips) (c0_i32_125 : BitVec 32) : Fin 2 → Nat :=
  let c512_127 : Index := 512#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v278 : BitVec 32 := Scalar.addi v162 c0_i32_125
  let c128_i32_126 : BitVec 32 := 128#32
  let v279 : BitVec 32 := Scalar.muli v278 c128_i32_126
  let v280 : BitVec 32 := v279
  let v281 : Index := Scalar.indexCast v280
  ![512, v281.toNat]
def k0_mult11 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_131 : BitVec 32 := 1#32
  let v291 : BitVec 32 := Scalar.addi v162 c1_i32_131
  let c128_i32_132 : BitVec 32 := 128#32
  let v292 : BitVec 32 := Scalar.muli v291 c128_i32_132
  v292
def k0_mult12 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_138 : BitVec 32 := 0#32
  let v305 : BitVec 32 := Scalar.addi v162 c0_i32_138
  let c128_i32_139 : BitVec 32 := 128#32
  let v306 : BitVec 32 := Scalar.muli v305 c128_i32_139
  v306
def k0_off27 (k0_t2 : Fin k0_t2_loop.trips) (c0_i32_138 : BitVec 32) : Fin 2 → Nat :=
  let c640_140 : Index := 640#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v305 : BitVec 32 := Scalar.addi v162 c0_i32_138
  let c128_i32_139 : BitVec 32 := 128#32
  let v306 : BitVec 32 := Scalar.muli v305 c128_i32_139
  let v307 : BitVec 32 := v306
  let v308 : Index := Scalar.indexCast v307
  ![640, v308.toNat]
def k0_mult13 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_144 : BitVec 32 := 1#32
  let v318 : BitVec 32 := Scalar.addi v162 c1_i32_144
  let c128_i32_145 : BitVec 32 := 128#32
  let v319 : BitVec 32 := Scalar.muli v318 c128_i32_145
  v319
def k0_mult14 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_154 : BitVec 32 := 0#32
  let v336 : BitVec 32 := Scalar.addi v162 c0_i32_154
  let c128_i32_155 : BitVec 32 := 128#32
  let v337 : BitVec 32 := Scalar.muli v336 c128_i32_155
  v337
def k0_off28 (k0_t2 : Fin k0_t2_loop.trips) (c0_i32_154 : BitVec 32) : Fin 2 → Nat :=
  let c768_156 : Index := 768#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v336 : BitVec 32 := Scalar.addi v162 c0_i32_154
  let c128_i32_155 : BitVec 32 := 128#32
  let v337 : BitVec 32 := Scalar.muli v336 c128_i32_155
  let v338 : BitVec 32 := v337
  let v339 : Index := Scalar.indexCast v338
  ![768, v339.toNat]
def k0_mult15 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_160 : BitVec 32 := 1#32
  let v349 : BitVec 32 := Scalar.addi v162 c1_i32_160
  let c128_i32_161 : BitVec 32 := 128#32
  let v350 : BitVec 32 := Scalar.muli v349 c128_i32_161
  v350
def k0_mult16 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_167 : BitVec 32 := 0#32
  let v363 : BitVec 32 := Scalar.addi v162 c0_i32_167
  let c128_i32_168 : BitVec 32 := 128#32
  let v364 : BitVec 32 := Scalar.muli v363 c128_i32_168
  v364
def k0_off29 (k0_t2 : Fin k0_t2_loop.trips) (c0_i32_167 : BitVec 32) : Fin 2 → Nat :=
  let c896_169 : Index := 896#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v363 : BitVec 32 := Scalar.addi v162 c0_i32_167
  let c128_i32_168 : BitVec 32 := 128#32
  let v364 : BitVec 32 := Scalar.muli v363 c128_i32_168
  let v365 : BitVec 32 := v364
  let v366 : Index := Scalar.indexCast v365
  ![896, v366.toNat]
def k0_mult17 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_173 : BitVec 32 := 1#32
  let v376 : BitVec 32 := Scalar.addi v162 c1_i32_173
  let c128_i32_174 : BitVec 32 := 128#32
  let v377 : BitVec 32 := Scalar.muli v376 c128_i32_174
  v377
def k0_mult18 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_183 : BitVec 32 := 0#32
  let v394 : BitVec 32 := Scalar.addi v162 c0_i32_183
  let c128_i32_184 : BitVec 32 := 128#32
  let v395 : BitVec 32 := Scalar.muli v394 c128_i32_184
  v395
def k0_off30 (k0_t2 : Fin k0_t2_loop.trips) (c0_i32_183 : BitVec 32) : Fin 2 → Nat :=
  let c1024_185 : Index := 1024#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v394 : BitVec 32 := Scalar.addi v162 c0_i32_183
  let c128_i32_184 : BitVec 32 := 128#32
  let v395 : BitVec 32 := Scalar.muli v394 c128_i32_184
  let v396 : BitVec 32 := v395
  let v397 : Index := Scalar.indexCast v396
  ![1024, v397.toNat]
def k0_mult19 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_189 : BitVec 32 := 1#32
  let v407 : BitVec 32 := Scalar.addi v162 c1_i32_189
  let c128_i32_190 : BitVec 32 := 128#32
  let v408 : BitVec 32 := Scalar.muli v407 c128_i32_190
  v408
def k0_mult20 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_196 : BitVec 32 := 0#32
  let v421 : BitVec 32 := Scalar.addi v162 c0_i32_196
  let c128_i32_197 : BitVec 32 := 128#32
  let v422 : BitVec 32 := Scalar.muli v421 c128_i32_197
  v422
def k0_off31 (k0_t2 : Fin k0_t2_loop.trips) (c0_i32_196 : BitVec 32) : Fin 2 → Nat :=
  let c1152_198 : Index := 1152#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v421 : BitVec 32 := Scalar.addi v162 c0_i32_196
  let c128_i32_197 : BitVec 32 := 128#32
  let v422 : BitVec 32 := Scalar.muli v421 c128_i32_197
  let v423 : BitVec 32 := v422
  let v424 : Index := Scalar.indexCast v423
  ![1152, v424.toNat]
def k0_mult21 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_202 : BitVec 32 := 1#32
  let v434 : BitVec 32 := Scalar.addi v162 c1_i32_202
  let c128_i32_203 : BitVec 32 := 128#32
  let v435 : BitVec 32 := Scalar.muli v434 c128_i32_203
  v435
def k0_mult22 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c0_i32_212 : BitVec 32 := 0#32
  let v452 : BitVec 32 := Scalar.addi v162 c0_i32_212
  let c128_i32_213 : BitVec 32 := 128#32
  let v453 : BitVec 32 := Scalar.muli v452 c128_i32_213
  v453
def k0_off32 (k0_t2 : Fin k0_t2_loop.trips) (c0_i32_212 : BitVec 32) : Fin 2 → Nat :=
  let c1280_214 : Index := 1280#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let v452 : BitVec 32 := Scalar.addi v162 c0_i32_212
  let c128_i32_213 : BitVec 32 := 128#32
  let v453 : BitVec 32 := Scalar.muli v452 c128_i32_213
  let v454 : BitVec 32 := v453
  let v455 : Index := Scalar.indexCast v454
  ![1280, v455.toNat]
def k0_mult23 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c1_i32_218 : BitVec 32 := 1#32
  let v465 : BitVec 32 := Scalar.addi v162 c1_i32_218
  let c128_i32_219 : BitVec 32 := 128#32
  let v466 : BitVec 32 := Scalar.muli v465 c128_i32_219
  v466
def k0_mult24 (k0_t2 : Fin k0_t2_loop.trips) : BitVec 32 :=
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c128_i32_228 : BitVec 32 := 128#32
  let v483 : BitVec 32 := Scalar.muli v162 c128_i32_228
  v483
def k0_off33 (k0_t2 : Fin k0_t2_loop.trips) : Fin 2 → Nat :=
  let c0_229 : Index := 0#32
  let c2_i32 : BitVec 32 := 2#32
  let c0_i32_66 : BitVec 32 := 0#32
  let c1_i32_67 : BitVec 32 := 1#32
  let arg13 : BitVec 32 := Scf.iv c0_i32_66 c1_i32_67 k0_t2
  let v162 : BitVec 32 := Scalar.muli c2_i32 arg13
  let c128_i32_228 : BitVec 32 := 128#32
  let v483 : BitVec 32 := Scalar.muli v162 c128_i32_228
  let v484 : BitVec 32 := v483
  let v485 : Index := Scalar.indexCast v484
  ![0, v485.toNat]
def cc0_transform_0 (k0_off1_inb : ∀ i : grid0.Coords, ∀ a, (k0_off1 i) a + S1.size a ≤ S70.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S70) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (k0_off1_inb : ∀ i : grid0.Coords, ∀ a, (k0_off1 i) a + S1.size a ≤ S70.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S70) ![v0.toNat] S1.size (k0_off1_inb i)) numel1_S1
  let c0_i32 : BitVec 32 := 0#32
  let c0_i32_0 : BitVec 32 := 0#32
  ![c0_i32.toNat, v1.toNat]

def cc0_transform_4 (k0_off1_inb : ∀ i : grid0.Coords, ∀ a, (k0_off1 i) a + S1.size a ≤ S70.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S70) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  ![c0_i32.toNat, v2.toNat]

def cc0_transform_5 (k0_off1_inb : ∀ i : grid0.Coords, ∀ a, (k0_off1 i) a + S1.size a ≤ S70.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S70) ![v0.toNat] S1.size (k0_off1_inb i)) numel1_S1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x528 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1408 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1408 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1408x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x11 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8960x2048 : Shape := ⟨2, ![8960, 2048]⟩
abbrev S8960x16 : Shape := ⟨2, ![8960, 16]⟩
abbrev S2048x180224 : Shape := ⟨2, ![2048, 180224]⟩
abbrev S16x1408 : Shape := ⟨2, ![16, 1408]⟩
abbrev S90112x2048 : Shape := ⟨2, ![90112, 2048]⟩
abbrev S704x16 : Shape := ⟨2, ![704, 16]⟩
abbrev S70x11 : Shape := ⟨2, ![70, 11]⟩
abbrev S_ : Shape := ⟨0, ![]⟩
abbrev S70x22 : Shape := ⟨2, ![70, 22]⟩
abbrev S16x128x1408x128 : Shape := ⟨4, ![16, 128, 1408, 128]⟩
abbrev S70x22x1 : Shape := ⟨3, ![70, 22, 1]⟩
abbrev S70x16x128x22x128 : Shape := ⟨5, ![70, 16, 128, 22, 128]⟩
abbrev S70x16x22 : Shape := ⟨3, ![70, 16, 22]⟩
abbrev S704x128x16x128 : Shape := ⟨4, ![704, 128, 16, 128]⟩
abbrev S70x11x1 : Shape := ⟨3, ![70, 11, 1]⟩
abbrev S70x11x128x16x128 : Shape := ⟨5, ![70, 11, 128, 16, 128]⟩
abbrev S70x11x16 : Shape := ⟨3, ![70, 11, 16]⟩
abbrev S70x128x16x128 : Shape := ⟨4, ![70, 128, 16, 128]⟩
abbrev S70x128x16 : Shape := ⟨3, ![70, 128, 16]⟩
abbrev S8960x1408 : Shape := ⟨2, ![8960, 1408]⟩
abbrev S8960x11 : Shape := ⟨2, ![8960, 11]⟩
abbrev S70x128x16x1 : Shape := ⟨4, ![70, 128, 16, 1]⟩
abbrev S70x128x2048 : Shape := ⟨3, ![70, 128, 2048]⟩
abbrev S70x16x1x22x1 : Shape := ⟨5, ![70, 16, 1, 22, 1]⟩
abbrev S70x2048x2816 : Shape := ⟨3, ![70, 2048, 2816]⟩
abbrev S70x128x2816 : Shape := ⟨3, ![70, 128, 2816]⟩
abbrev S70x128x1408 : Shape := ⟨3, ![70, 128, 1408]⟩
abbrev S70x128x11x128 : Shape := ⟨4, ![70, 128, 11, 128]⟩
abbrev S70x128x11 : Shape := ⟨3, ![70, 128, 11]⟩
abbrev S70x128x11x1 : Shape := ⟨4, ![70, 128, 11, 1]⟩
abbrev S70x11x1x16x1 : Shape := ⟨5, ![70, 11, 1, 16, 1]⟩
abbrev S70x1408x2048 : Shape := ⟨3, ![70, 1408, 2048]⟩

abbrev nBuf : Space → Nat
  | .hbm => 26
  | .vmem => 9
  | .smem => 0
  | _ => 0

abbrev bufTy : (tb : Table) → Fin (tcTables nBuf tb) → BufTy
  | .hbm, ⟨0, _⟩ => ⟨S8960x2048, .fp8e4m3⟩
  | .hbm, ⟨1, _⟩ => ⟨S8960x16, .f32⟩
  | .hbm, ⟨2, _⟩ => ⟨S2048x180224, .fp8e4m3⟩
  | .hbm, ⟨3, _⟩ => ⟨S16x1408, .f32⟩
  | .hbm, ⟨4, _⟩ => ⟨S90112x2048, .fp8e4m3⟩
  | .hbm, ⟨5, _⟩ => ⟨S704x16, .f32⟩
  | .hbm, ⟨6, _⟩ => ⟨S70x11, .i32⟩
  | .hbm, ⟨7, _⟩ => ⟨S_, .i32⟩
  | .hbm, ⟨8, _⟩ => ⟨S70x11, .i32⟩
  | .hbm, ⟨9, _⟩ => ⟨S70x11, .i32⟩
  | .hbm, ⟨10, _⟩ => ⟨S70x22, .i32⟩
  | .hbm, ⟨11, _⟩ => ⟨S16x128x1408x128, .fp8e4m3⟩
  | .hbm, ⟨12, _⟩ => ⟨S70x22x1, .i32⟩
  | .hbm, ⟨13, _⟩ => ⟨S70x16x128x22x128, .fp8e4m3⟩
  | .hbm, ⟨14, _⟩ => ⟨S70x22x1, .i32⟩
  | .hbm, ⟨15, _⟩ => ⟨S70x16x22, .f32⟩
  | .hbm, ⟨16, _⟩ => ⟨S704x128x16x128, .fp8e4m3⟩
  | .hbm, ⟨17, _⟩ => ⟨S70x11x1, .i32⟩
  | .hbm, ⟨18, _⟩ => ⟨S70x11x128x16x128, .fp8e4m3⟩
  | .hbm, ⟨19, _⟩ => ⟨S70x11x1, .i32⟩
  | .hbm, ⟨20, _⟩ => ⟨S70x11x16, .f32⟩
  | .hbm, ⟨21, _⟩ => ⟨S70x128x16x128, .fp8e4m3⟩
  | .hbm, ⟨22, _⟩ => ⟨S70x128x16, .f32⟩
  | .hbm, ⟨23, _⟩ => ⟨S8960x2048, .bf16⟩
  | .hbm, ⟨24, _⟩ => ⟨S8960x1408, .fp8e4m3⟩
  | .hbm, ⟨25, _⟩ => ⟨S8960x11, .f32⟩
  | .local _ .vmem, ⟨0, _⟩ => ⟨S70x128x16x128, .fp8e4m3⟩
  | .local _ .vmem, ⟨1, _⟩ => ⟨S70x128x16, .f32⟩
  | .local _ .vmem, ⟨2, _⟩ => ⟨S70x16x128x22x128, .fp8e4m3⟩
  | .local _ .vmem, ⟨3, _⟩ => ⟨S70x16x22, .f32⟩
  | .local _ .vmem, ⟨4, _⟩ => ⟨S70x11x128x16x128, .fp8e4m3⟩
  | .local _ .vmem, ⟨5, _⟩ => ⟨S70x11x16, .f32⟩
  | .local _ .vmem, ⟨6, _⟩ => ⟨S8960x2048, .bf16⟩
  | .local _ .vmem, ⟨7, _⟩ => ⟨S8960x1408, .fp8e4m3⟩
  | .local _ .vmem, ⟨8, _⟩ => ⟨S8960x11, .f32⟩
  | _, _ => ⟨S8960x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_v4 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_call2_v0 : Ref sig .tc := ⟨.hbm, 17, rfl⟩
abbrev main_v7 : Ref sig .tc := ⟨.hbm, 18, rfl⟩
abbrev main_call3_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S70x128x16x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S70x128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S70x16x128x22x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S70x16x22 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S70x11x128x16x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S70x11x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8960x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8960x1408 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8960x11 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.RunK.lean ====
/- The whole-body run of the kernel (`kernelRun0_A`), by `sl_exec` over the printed skeletons, as the generated run
   module states it, with one step added by hand: after the first loop the scratch that holds the requantised hidden row block is
   covered by the loop's eleven stores, so its prior contents are restated as junk (`writes_eq_junk_of_tiled`) and the pieces
   that the second loop leaves in the output do not mention them. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref's buffer, after listed writes that tile its shape in blocks of one size, holds those writes over junk: what was
    there before is nowhere read. -/
theorem writes_eq_junk_of_tiled {κ : Kind} {sp : Space} {s : Shape} {e : EltTy} {M : Memref sig κ sp s e} (hw : M.IsWhole)
    (f : M.view.ty.Contents (Elt F)) (L : List (View.Piece (Elt F) s e)) (size : Fin s.rank → ℕ) (h : View.Piece.tiledL L size = true) :
    M.view.writes (Elt F) f L = M.view.writes (Elt F) M.view.junk L := by
  obtain ⟨b, rfl, rfl, rfl, hh⟩ := hw; cases hh
  funext y
  exact View.read_writes_apply_eq (View.whole b) f (View.whole b) (View.whole b).junk y L (View.cover_of_tiledL L size h y)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) :
    Σ' (L6 : List (View.Piece (Elt F) S128x2048 .bf16)), Σ' (L7 : List (View.Piece (Elt F) S128x1408 .fp8e4m3)), { L8 : List (View.Piece (Elt F) S128x11 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_expert_ffn i tbM0_0 htbM0_0 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_expert_ffn_eq_skeleton]; unfold cc0_expert_ffn_skel
    simp only [k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [writes_eq_junk_of_tiled harg12 fs1 _ S128x128.size (by sl_kernel_rfl)]
    isplitl [H6]; · iexists _; iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexact HT0

end Cert.Kernel.Gen

end
-- ==== Proof.FrmK.lean ====
/- The frame certificate of the kernel over the run of `Proof/RunK.lean`: what the outputs hold after each grid point
   (`outsAt0`), the pipeline's proof data (`dats`), the body obligation, the run (`run_main`) and the frame, as the generated
   frame module states them, under the pipeline's side condition of the prefetched table (`Ok m`). -/
module

public import proofs.«01_k».proof.Proof.RunK
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 6 tile its block (8 stores of `S128x256`, checked by the kernel's evaluation: Lib/Ring.lean `Piece.tiledL`, linear in the pieces, through a loop's `@[irreducible]` trip theorem too), so they cover it. -/
theorem cover0_A_6 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 x0 x1 x2 x3 x4 x5 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 x0 x1 x2 x3 x4 x5 xt0).1 S128x256.size (by sl_kernel_rfl) y

/-- What the run leaves in output 6's staging buffer: its pieces read back over junk. -/
def out0_A_6 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) : Vec F S128x2048 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 x0 x1 x2 x3 x4 x5 xt0).1)

/-- The run's pieces for output 7 tile its block (11 stores of `S128x128`, checked by the kernel's evaluation: Lib/Ring.lean `Piece.tiledL`, linear in the pieces, through a loop's `@[irreducible]` trip theorem too), so they cover it. -/
theorem cover0_A_7 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) (y : S128x1408.Idx) :
    ∃ pc ∈ (kernelRun0_A c i arg2 harg2 arg3 harg3 arg4 harg4 arg5 harg5 arg6 harg6 arg7 harg7 arg8 harg8 arg9 harg9 arg10 harg10 arg11 harg11 arg12 harg12 x0 x1 x2 x3 x4 x5 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 x0 x1 x2 x3 x4 x5 xt0).2.1 S128x128.size (by sl_kernel_rfl) y

/-- What the run leaves in output 7's staging buffer: its pieces read back over junk. -/
def out0_A_7 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) : Vec F S128x1408 .fp8e4m3 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 x0 x1 x2 x3 x4 x5 xt0).2.1)

/-- The run's pieces for output 8 tile its block (11 stores of `S128x1`, checked by the kernel's evaluation: Lib/Ring.lean `Piece.tiledL`, linear in the pieces, through a loop's `@[irreducible]` trip theorem too), so they cover it. -/
theorem cover0_A_8 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) (y : S128x11.Idx) :
    ∃ pc ∈ (kernelRun0_A c i arg2 harg2 arg3 harg3 arg4 harg4 arg5 harg5 arg6 harg6 arg7 harg7 arg8 harg8 arg9 harg9 arg10 harg10 arg11 harg11 arg12 harg12 x0 x1 x2 x3 x4 x5 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 x0 x1 x2 x3 x4 x5 xt0).2.2.1 S128x1.size (by sl_kernel_rfl) y

/-- What the run leaves in output 8's staging buffer: its pieces read back over junk. -/
def out0_A_8 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) : Vec F S128x11 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 x0 x1 x2 x3 x4 x5 xt0).2.2.1)

/-! ## What the outputs hold after each point -/

/-- What the outputs' staging buffers hold after the body at point `t` (as a tuple, in window order): the run's contents at
    the point's memrefs and input blocks. -/
def outsAt0 (hO : Ok m) (c : Dev nD) (t : Fin (cfgM m hO).N) : Vec F S128x2048 .bf16 × Vec F S128x1408 .fp8e4m3 × Vec F S128x11 .f32 :=
  (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t).1
    | ⟨7, _⟩ => (outsAt0 m hO c t).2.1
    | ⟨8, _⟩ => (outsAt0 m hO c t).2.2
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t).1 := by dsimp only [dats]; try rfl
theorem after0_7 (hO : Ok m) (c : Dev nD) (t : Fin (cfgM m hO).N) : (dats m hO 0 c).after 7 t = (outsAt0 m hO c t).2.1 := by dsimp only [dats]; try rfl
theorem after0_8 (hO : Ok m) (c : Dev nD) (t : Fin (cfgM m hO).N) : (dats m hO 0 c).after 8 t = (outsAt0 m hO c t).2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq, PhiA0_eq]
  unfold outsAt0
  unfold out0_A_6 out0_A_7 out0_A_8; (try dsimp only)
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HT0]; · iexact HT0
  iintro ⟨H0, H1, H2, H3, H4, H5, ⟨%e6, H6⟩, ⟨%e7, H7⟩, ⟨%e8, H8⟩, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Gen

end
-- ==== Proof.Run.lean ====
/- The whole-body run of the idealized kernel (`kernelRun0_A`), by `sl_exec` over the printed skeletons, as the generated run
   module states it, with one step added by hand: after the first loop the scratch that holds the requantised hidden row block is
   covered by the loop's eleven stores, so its prior contents are restated as junk (`writes_eq_junk_of_tiled`) and the pieces
   that the second loop leaves in the output do not mention them. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref's buffer, after listed writes that tile its shape in blocks of one size, holds those writes over junk: what was
    there before is nowhere read. -/
theorem writes_eq_junk_of_tiled {κ : Kind} {sp : Space} {s : Shape} {e : EltTy} {M : Memref sig κ sp s e} (hw : M.IsWhole)
    (f : M.view.ty.Contents (Elt F)) (L : List (View.Piece (Elt F) s e)) (size : Fin s.rank → ℕ) (h : View.Piece.tiledL L size = true) :
    M.view.writes (Elt F) f L = M.view.writes (Elt F) M.view.junk L := by
  obtain ⟨b, rfl, rfl, rfl, hh⟩ := hw; cases hh
  funext y
  exact View.read_writes_apply_eq (View.whole b) f (View.whole b) (View.whole b).junk y L (View.cover_of_tiledL L size h y)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) :
    Σ' (L6 : List (View.Piece (Elt F) S128x2048 .bf16)), Σ' (L7 : List (View.Piece (Elt F) S128x1408 .fp8e4m3)), { L8 : List (View.Piece (Elt F) S128x11 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_expert_ffn i tbM0_0 htbM0_0 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_expert_ffn_eq_skeleton]; unfold cc0_expert_ffn_skel
    simp only [k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [writes_eq_junk_of_tiled harg12 fs1 _ S128x128.size (by sl_kernel_rfl)]
    isplitl [H6]; · iexists _; iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexact HT0

end Cert.KernelIdeal.Gen

end
-- ==== Proof.Frm.lean ====
/- The frame certificate of the idealized kernel over the run of `Proof/Run.lean`: what the outputs hold after each grid point
   (`outsAt0`), the pipeline's proof data (`dats`), the body obligation, the run (`run_main`) and the frame, as the generated
   frame module states them, under the pipeline's side condition of the prefetched table (`Ok m`). -/
module

public import proofs.«01_k».proof.Proof.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 6 tile its block (8 stores of `S128x256`, checked by the kernel's evaluation: Lib/Ring.lean `Piece.tiledL`, linear in the pieces, through a loop's `@[irreducible]` trip theorem too), so they cover it. -/
theorem cover0_A_6 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 x0 x1 x2 x3 x4 x5 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 x0 x1 x2 x3 x4 x5 xt0).1 S128x256.size (by sl_kernel_rfl) y

/-- What the run leaves in output 6's staging buffer: its pieces read back over junk. -/
def out0_A_6 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) : Vec F S128x2048 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 x0 x1 x2 x3 x4 x5 xt0).1)

/-- The run's pieces for output 7 tile its block (11 stores of `S128x128`, checked by the kernel's evaluation: Lib/Ring.lean `Piece.tiledL`, linear in the pieces, through a loop's `@[irreducible]` trip theorem too), so they cover it. -/
theorem cover0_A_7 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) (y : S128x1408.Idx) :
    ∃ pc ∈ (kernelRun0_A c i arg2 harg2 arg3 harg3 arg4 harg4 arg5 harg5 arg6 harg6 arg7 harg7 arg8 harg8 arg9 harg9 arg10 harg10 arg11 harg11 arg12 harg12 x0 x1 x2 x3 x4 x5 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 x0 x1 x2 x3 x4 x5 xt0).2.1 S128x128.size (by sl_kernel_rfl) y

/-- What the run leaves in output 7's staging buffer: its pieces read back over junk. -/
def out0_A_7 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) : Vec F S128x1408 .fp8e4m3 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 x0 x1 x2 x3 x4 x5 xt0).2.1)

/-- The run's pieces for output 8 tile its block (11 stores of `S128x1`, checked by the kernel's evaluation: Lib/Ring.lean `Piece.tiledL`, linear in the pieces, through a loop's `@[irreducible]` trip theorem too), so they cover it. -/
theorem cover0_A_8 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) (y : S128x11.Idx) :
    ∃ pc ∈ (kernelRun0_A c i arg2 harg2 arg3 harg3 arg4 harg4 arg5 harg5 arg6 harg6 arg7 harg7 arg8 harg8 arg9 harg9 arg10 harg10 arg11 harg11 arg12 harg12 x0 x1 x2 x3 x4 x5 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 x0 x1 x2 x3 x4 x5 xt0).2.2.1 S128x1.size (by sl_kernel_rfl) y

/-- What the run leaves in output 8's staging buffer: its pieces read back over junk. -/
def out0_A_8 (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole)
    (x0 : Vec F S1x1x528 .f32) (x1 : Vec F S128x2048 .fp8e4m3) (x2 : Vec F S128x16 .f32) (x3 : Vec F S2048x1408 .fp8e4m3) (x4 : Vec F S2048x1408 .fp8e4m3) (x5 : Vec F S1408x2048 .fp8e4m3) (xt0 : TbBuf0 (F := F) c tbM0_0) : Vec F S128x11 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 x0 x1 x2 x3 x4 x5 xt0).2.2.1)

/-! ## What the outputs hold after each point -/

/-- What the outputs' staging buffers hold after the body at point `t` (as a tuple, in window order): the run's contents at
    the point's memrefs and input blocks. -/
def outsAt0 (hO : Ok m) (c : Dev nD) (t : Fin (cfgM m hO).N) : Vec F S128x2048 .bf16 × Vec F S128x1408 .fp8e4m3 × Vec F S128x11 .f32 :=
  (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t).1
    | ⟨7, _⟩ => (outsAt0 m hO c t).2.1
    | ⟨8, _⟩ => (outsAt0 m hO c t).2.2
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t).1 := by dsimp only [dats]; try rfl
theorem after0_7 (hO : Ok m) (c : Dev nD) (t : Fin (cfgM m hO).N) : (dats m hO 0 c).after 7 t = (outsAt0 m hO c t).2.1 := by dsimp only [dats]; try rfl
theorem after0_8 (hO : Ok m) (c : Dev nD) (t : Fin (cfgM m hO).N) : (dats m hO 0 c).after 8 t = (outsAt0 m hO c t).2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq, PhiA0_eq]
  unfold outsAt0
  unfold out0_A_6 out0_A_7 out0_A_8; (try dsimp only)
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HT0]; · iexact HT0
  iintro ⟨H0, H1, H2, H3, H4, H5, ⟨%e6, H6⟩, ⟨%e7, H7⟩, ⟨%e8, H8⟩, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Gen

end
-- ==== Proof.Route.lean ====
/- What the precondition says of the routing table, in plain numbers: every row block's eleven column indices are the eleven
   consecutive columns of one of the 64 experts. -/
module
public import proofs.«01_k».proof.Proof.Gen.Pre_routed
public import Idealize.ShloMosaic.Lib.PointwiseCore

@[expose] public section
set_option maxRecDepth 16384
noncomputable section
namespace Cert.Route
open Idealize.ShloMosaic

variable {F : FTy → Type} [FloatOps F]

/-- The routing table sends row block `r` to expert `e r`: its eleven words are `11 * e r`, …, `11 * e r + 10`. -/
def Sends (a : IVec Cert.Pre_routed.S70x11 32) (e : Fin 70 → Fin 64) : Prop :=
  ∀ (r : Fin 70) (k : Fin 11), a (ix2 r k) = BitVec.ofNat 32 (11 * (e r).val + k.val)

/-- A word that is nonnegative, below 704 and a multiple of 11 is `11 * e` for an `e` below 64. -/
theorem word_of_checks (x : BitVec 32) (h0 : IntOp.cmpi .sge x 0#32 = 1#1) (h1 : IntOp.cmpi .slt x 704#32 = 1#1)
    (h2 : IntOp.cmpi .eq (IntOp.remsi ArithUnit.host x 11#32) 0#32 = 1#1) : ∃ e : Fin 64, x = BitVec.ofNat 32 (11 * e.val) := by
  have hx : x.toNat < 704 := by
    have ofBool_eq_one (p : Bool) : (BitVec.ofBool p = 1#1) ↔ p = true := by cases p <;> decide
    simp only [ofBool_eq_one, IntOp.cmpi, BitVec.sle, BitVec.slt, decide_eq_true_eq, BitVec.toInt, BitVec.toNat_ofNat] at h0 h1
    omega
  have hall : ∀ n : Fin 704, IntOp.cmpi .eq (IntOp.remsi ArithUnit.host (BitVec.ofNat 32 n.val) 11#32) 0#32 = 1#1 → n.val % 11 = 0 := by
    decide +kernel
  have hxe : x = BitVec.ofNat 32 x.toNat := by simp
  have hm := hall ⟨x.toNat, hx⟩ (by simpa using h2)
  refine ⟨⟨x.toNat / 11, by omega⟩, ?_⟩
  refine hxe.trans (congrArg _ ?_)
  show x.toNat = 11 * (x.toNat / 11)
  simp only at hm; omega

/-- The precondition's four predicates, all ones, give the expert of every row block. -/
theorem sends_of_pre {a0 : FVec F Cert.Pre_routed.S8960x2048 .fp8e4m3} {a1 : FVec F Cert.Pre_routed.S8960x16 .f32}
    {a2 : FVec F Cert.Pre_routed.S2048x180224 .fp8e4m3} {a3 : FVec F Cert.Pre_routed.S16x1408 .f32}
    {a4 : FVec F Cert.Pre_routed.S90112x2048 .fp8e4m3} {a5 : FVec F Cert.Pre_routed.S704x16 .f32} {a6 : IVec Cert.Pre_routed.S70x11 32}
    (h : (Cert.Pre_routed.fn (F := F) a0 a1 a2 a3 a4 a5 a6).1 = (fun _ => 1#1)
      ∧ (Cert.Pre_routed.fn (F := F) a0 a1 a2 a3 a4 a5 a6).2.1 = (fun _ => 1#1)
      ∧ (Cert.Pre_routed.fn (F := F) a0 a1 a2 a3 a4 a5 a6).2.2.1 = (fun _ => 1#1)
      ∧ (Cert.Pre_routed.fn (F := F) a0 a1 a2 a3 a4 a5 a6).2.2.2 = (fun _ => 1#1)) : ∃ e, Sends a6 e := by
  obtain ⟨h1, h2, h3, h4⟩ := h
  have H2 := fun r : Fin 70 => congrFun h2 (ix2 r 0)
  have H3 := fun r : Fin 70 => congrFun h3 (ix2 r 0)
  have H4 := fun r : Fin 70 => congrFun h4 (ix2 r 0)
  pointwise [Cert.Pre_routed.fn] at H2
  pointwise [Cert.Pre_routed.fn] at H3
  pointwise [Cert.Pre_routed.fn] at H4
  have hw := fun r => word_of_checks _ (H2 r) (H3 r) (H4 r)
  choose e he using hw
  refine ⟨e, fun r k => ?_⟩
  have H1 := congrFun h1 (ix2 r k)
  pointwise [Cert.Pre_routed.fn] at H1
  rw [he r] at H1
  have ofBool_eq_one (p : Bool) : (BitVec.ofBool p = 1#1) ↔ p = true := by cases p <;> decide
  simp only [IntOp.cmpi, ofBool_eq_one, beq_iff_eq, IntOp.addi] at H1
  rw [H1, ← BitVec.ofNat_add]

end Cert.Route
-- ==== Proof.OkK.lean ====
/- The prefetched table of the program `Kernel` and the pipeline's side condition of it: under the precondition the
   table holds each row block's expert, and every window that reads it stays inside its array. -/
module
public import proofs.«01_k».proof.Proof.Gen.Kernel.Frame.Runs
public import proofs.«01_k».proof.Proof.Route
public import Idealize.ShloMosaic.Lib.PointwiseCore
public import Idealize.ShloMosaic.Lib.Claim

@[expose] public section
set_option maxRecDepth 16384
noncomputable section
namespace Cert.Kernel.Gen
open Idealize.ShloMosaic Idealize.ShloMosaic.TcCoe Cert.Route

variable {F : FTy → Type} [FloatOps F]
variable (m : (ℓ : Loc nD τ sig) → Buf (Elt F) ℓ)

/-- The host's floor division by 11 of the word `11 * e` is `e`. -/
theorem floor_div_word (e : Fin 64) (x : BitVec 32) (hx : x = BitVec.ofNat 32 (11 * e.val)) : Scalar.select
      (IntOp.andi
        (IntOp.cmpi CmpIPredicate.ne
          (if x = 0 then 0#32 else if BitVec.msb x = true then -1 else 1)
          (if 11#32 = 0 then 0 else if (11#32).msb = true then -1 else 1))
        (IntOp.cmpi CmpIPredicate.ne (IntOp.remsi ArithUnit.host x 11#32) 0#32))
      (IntOp.subi (IntOp.divsi ArithUnit.host x 11#32) 1#32)
      (IntOp.divsi ArithUnit.host x 11#32) = BitVec.ofNat 32 e.val := by
  subst hx; revert e; decide +kernel

/-- The prefetched table's word `r` is the expert of row block `r`. -/
theorem table_word {e : Fin 70 → Fin 64} (he : Sends (m ((0 : Dev nD), Proc.tc.devRef main_arg6)) e) (r : Fin 70) :
    V m (0 : Dev nD) main_v2 (ix1 r) = BitVec.ofNat 32 (e r).val := by
  unfold V
  simp only [hostOps0, hostOps0_1, hostOps0_2, List.flatten_cons, List.flatten_nil, List.append_nil, List.cons_append,
      List.nil_append]
  after_results_simp
  after_results_loop
  simp only [StableHlo.TRef.ofBuf_toBuf, StableHlo.TRef.ofBuf, StableHlo.TRef.toBuf, cast_eq, id_eq]
  pointwise
  exact floor_div_word (e r) _ (he r 0)

/-- The word an index map reads at grid point `i` is the expert of row block `i`. -/
theorem at_word {e : Fin 70 → Fin 64} (he : Sends (m ((0 : Dev nD), Proc.tc.devRef main_arg6)) e) (i : grid0.Coords) :
    (tbl m).at 0 (Rect.unit (s := S70) ![(Scalar.indexCast (BitVec.ofNat 32 (i 0).val)).toNat] S1.size (k0_off1_inb i)) numel1_S1
      = BitVec.ofNat 32 (e (i 0)).val := by
  rw [← table_word m he (i 0)]
  unfold Pipeline.Prefetch.Contents.at
  show V m (0 : Dev nD) main_v2 _ = _
  refine congrArg (V m (0 : Dev nD) main_v2) (funext fun a : Fin 1 => ?_)
  obtain rfl : a = 0 := Subsingleton.elim _ _
  apply Fin.ext
  show (Scalar.indexCast (BitVec.ofNat 32 (i 0).val)).toNat + 1 * 0 = (i 0).val
  have hi : (i 0).val < 70 := (i 0).isLt
  simp [Scalar.indexCast]
  omega

/-- What the four index maps that read the table send grid point `i` to. -/
theorem maps {e : Fin 70 → Fin 64} (he : Sends (m ((0 : Dev nD), Proc.tc.devRef main_arg6)) e) (i : grid0.Coords) :
    cc0_transform_0 k0_off1_inb numel1_S1 (tbl m) i = ![(e (i 0)).val, 0, 0]
      ∧ cc0_transform_3 k0_off1_inb numel1_S1 (tbl m) i = ![0, (e (i 0)).val]
      ∧ cc0_transform_4 k0_off1_inb numel1_S1 (tbl m) i = ![0, 64 + (e (i 0)).val]
      ∧ cc0_transform_5 k0_off1_inb numel1_S1 (tbl m) i = ![(e (i 0)).val, 0] := by
  have hE : (BitVec.ofNat 32 (e (i 0)).val).toNat = (e (i 0)).val := by
    have := (e (i 0)).isLt
    rw [BitVec.toNat_ofNat]; omega
  have hE' : (Scalar.addi 64#32 (BitVec.ofNat 32 (e (i 0)).val)).toNat = 64 + (e (i 0)).val := by
    have := (e (i 0)).isLt
    simp only [Scalar.addi, IntOp.addi, BitVec.toNat_add, BitVec.toNat_ofNat]; omega
  have hw := at_word m he i
  refine ⟨?_, ?_, ?_, ?_⟩
  · unfold cc0_transform_0; dsimp only; rw [hw, hE]; rfl
  · unfold cc0_transform_3; dsimp only; rw [hw, hE]; rfl
  · unfold cc0_transform_4; dsimp only; rw [hw, hE']; rfl
  · unfold cc0_transform_5; dsimp only; rw [hw, hE]; rfl

/-- Under the precondition the pipeline's side condition of the table holds. -/
theorem ok_of_sends {e : Fin 70 → Fin 64} (he : Sends (m ((0 : Dev nD), Proc.tc.devRef main_arg6)) e) : Ok m := by
  have b0 : ∀ x : Fin 64, ∀ a, ((![x.val, 0, 0] : Fin 3 → ℕ) a + 1) * S1x1x528.size a ≤ S64x1x528.size a := by decide +kernel
  have b3 : ∀ x : Fin 64, ∀ a, ((![0, x.val] : Fin 2 → ℕ) a + 1) * S2048x1408.size a ≤ S2048x180224.size a := by decide +kernel
  have b4 : ∀ x : Fin 64, ∀ a, ((![0, 64 + x.val] : Fin 2 → ℕ) a + 1) * S2048x1408.size a ≤ S2048x180224.size a := by decide +kernel
  have b5 : ∀ x : Fin 64, ∀ a, ((![x.val, 0] : Fin 2 → ℕ) a + 1) * S1408x2048.size a ≤ S90112x2048.size a := by decide +kernel
  refine ⟨fun i => ⟨?_, Or.inl rfl⟩, fun i => ⟨?_, Or.inr (Affine.block_words_dvd (of_decide_eq_true rfl) (by decide))⟩,
    fun i => ⟨?_, Or.inr (Affine.block_words_dvd (of_decide_eq_true rfl) (by decide))⟩,
    fun i => ⟨?_, Or.inr (Affine.block_words_dvd (of_decide_eq_true rfl) (by decide))⟩⟩
  · rw [(maps m he i).1]; exact b0 _
  · rw [(maps m he i).2.1]; exact b3 _
  · rw [(maps m he i).2.2.1]; exact b4 _
  · rw [(maps m he i).2.2.2]; exact b5 _

end Cert.Kernel.Gen
-- ==== Proof.Ok.lean ====
/- The prefetched table of the program `KernelIdeal` and the pipeline's side condition of it: under the precondition the
   table holds each row block's expert, and every window that reads it stays inside its array. -/
module
public import proofs.«01_k».proof.Proof.Gen.KernelIdeal.Frame.Runs
public import proofs.«01_k».proof.Proof.Route
public import Idealize.ShloMosaic.Lib.PointwiseCore
public import Idealize.ShloMosaic.Lib.Claim

@[expose] public section
set_option maxRecDepth 16384
noncomputable section
namespace Cert.KernelIdeal.Gen
open Idealize.ShloMosaic Idealize.ShloMosaic.TcCoe Cert.Route

variable {F : FTy → Type} [FloatOps F]
variable (m : (ℓ : Loc nD τ sig) → Buf (Elt F) ℓ)

/-- The host's floor division by 11 of the word `11 * e` is `e`. -/
theorem floor_div_word (e : Fin 64) (x : BitVec 32) (hx : x = BitVec.ofNat 32 (11 * e.val)) : Scalar.select
      (IntOp.andi
        (IntOp.cmpi CmpIPredicate.ne
          (if x = 0 then 0#32 else if BitVec.msb x = true then -1 else 1)
          (if 11#32 = 0 then 0 else if (11#32).msb = true then -1 else 1))
        (IntOp.cmpi CmpIPredicate.ne (IntOp.remsi ArithUnit.host x 11#32) 0#32))
      (IntOp.subi (IntOp.divsi ArithUnit.host x 11#32) 1#32)
      (IntOp.divsi ArithUnit.host x 11#32) = BitVec.ofNat 32 e.val := by
  subst hx; revert e; decide +kernel

/-- The prefetched table's word `r` is the expert of row block `r`. -/
theorem table_word {e : Fin 70 → Fin 64} (he : Sends (m ((0 : Dev nD), Proc.tc.devRef main_arg6)) e) (r : Fin 70) :
    V m (0 : Dev nD) main_v2 (ix1 r) = BitVec.ofNat 32 (e r).val := by
  unfold V
  simp only [hostOps0, hostOps0_1, hostOps0_2, List.flatten_cons, List.flatten_nil, List.append_nil, List.cons_append,
      List.nil_append]
  after_results_simp
  after_results_loop
  simp only [StableHlo.TRef.ofBuf_toBuf, StableHlo.TRef.ofBuf, StableHlo.TRef.toBuf, cast_eq, id_eq]
  pointwise
  exact floor_div_word (e r) _ (he r 0)

/-- The word an index map reads at grid point `i` is the expert of row block `i`. -/
theorem at_word {e : Fin 70 → Fin 64} (he : Sends (m ((0 : Dev nD), Proc.tc.devRef main_arg6)) e) (i : grid0.Coords) :
    (tbl m).at 0 (Rect.unit (s := S70) ![(Scalar.indexCast (BitVec.ofNat 32 (i 0).val)).toNat] S1.size (k0_off1_inb i)) numel1_S1
      = BitVec.ofNat 32 (e (i 0)).val := by
  rw [← table_word m he (i 0)]
  unfold Pipeline.Prefetch.Contents.at
  show V m (0 : Dev nD) main_v2 _ = _
  refine congrArg (V m (0 : Dev nD) main_v2) (funext fun a : Fin 1 => ?_)
  obtain rfl : a = 0 := Subsingleton.elim _ _
  apply Fin.ext
  show (Scalar.indexCast (BitVec.ofNat 32 (i 0).val)).toNat + 1 * 0 = (i 0).val
  have hi : (i 0).val < 70 := (i 0).isLt
  simp [Scalar.indexCast]
  omega

/-- What the four index maps that read the table send grid point `i` to. -/
theorem maps {e : Fin 70 → Fin 64} (he : Sends (m ((0 : Dev nD), Proc.tc.devRef main_arg6)) e) (i : grid0.Coords) :
    cc0_transform_0 k0_off1_inb numel1_S1 (tbl m) i = ![(e (i 0)).val, 0, 0]
      ∧ cc0_transform_3 k0_off1_inb numel1_S1 (tbl m) i = ![0, (e (i 0)).val]
      ∧ cc0_transform_4 k0_off1_inb numel1_S1 (tbl m) i = ![0, 64 + (e (i 0)).val]
      ∧ cc0_transform_5 k0_off1_inb numel1_S1 (tbl m) i = ![(e (i 0)).val, 0] := by
  have hE : (BitVec.ofNat 32 (e (i 0)).val).toNat = (e (i 0)).val := by
    have := (e (i 0)).isLt
    rw [BitVec.toNat_ofNat]; omega
  have hE' : (Scalar.addi 64#32 (BitVec.ofNat 32 (e (i 0)).val)).toNat = 64 + (e (i 0)).val := by
    have := (e (i 0)).isLt
    simp only [Scalar.addi, IntOp.addi, BitVec.toNat_add, BitVec.toNat_ofNat]; omega
  have hw := at_word m he i
  refine ⟨?_, ?_, ?_, ?_⟩
  · unfold cc0_transform_0; dsimp only; rw [hw, hE]; rfl
  · unfold cc0_transform_3; dsimp only; rw [hw, hE]; rfl
  · unfold cc0_transform_4; dsimp only; rw [hw, hE']; rfl
  · unfold cc0_transform_5; dsimp only; rw [hw, hE]; rfl

/-- Under the precondition the pipeline's side condition of the table holds. -/
theorem ok_of_sends {e : Fin 70 → Fin 64} (he : Sends (m ((0 : Dev nD), Proc.tc.devRef main_arg6)) e) : Ok m := by
  have b0 : ∀ x : Fin 64, ∀ a, ((![x.val, 0, 0] : Fin 3 → ℕ) a + 1) * S1x1x528.size a ≤ S64x1x528.size a := by decide +kernel
  have b3 : ∀ x : Fin 64, ∀ a, ((![0, x.val] : Fin 2 → ℕ) a + 1) * S2048x1408.size a ≤ S2048x180224.size a := by decide +kernel
  have b4 : ∀ x : Fin 64, ∀ a, ((![0, 64 + x.val] : Fin 2 → ℕ) a + 1) * S2048x1408.size a ≤ S2048x180224.size a := by decide +kernel
  have b5 : ∀ x : Fin 64, ∀ a, ((![x.val, 0] : Fin 2 → ℕ) a + 1) * S1408x2048.size a ≤ S90112x2048.size a := by decide +kernel
  refine ⟨fun i => ⟨?_, Or.inl rfl⟩, fun i => ⟨?_, Or.inr (Affine.block_words_dvd (of_decide_eq_true rfl) (by decide))⟩,
    fun i => ⟨?_, Or.inr (Affine.block_words_dvd (of_decide_eq_true rfl) (by decide))⟩,
    fun i => ⟨?_, Or.inr (Affine.block_words_dvd (of_decide_eq_true rfl) (by decide))⟩⟩
  · rw [(maps m he i).1]; exact b0 _
  · rw [(maps m he i).2.1]; exact b3 _
  · rw [(maps m he i).2.2.1]; exact b4 _
  · rw [(maps m he i).2.2.2]; exact b5 _

end Cert.KernelIdeal.Gen
-- ==== Proof.KStage.lean ====
/- One trip of each of the kernel's two loops as products of blocks: the sums of partial products over pairs of blocks of
   128 are one sum over the whole inner dimension, and the scaled weight tiles at an index. -/
module

public import proofs.«01_k».proof.Proof.Gen.KernelIdeal.Loops
public import Idealize.ShloMosaic.Lib.Pipeline.ValueKit
public import Idealize.ShloMosaic.Lib.Pointwise
public import Idealize.ShloMosaic.Lib.PointwiseCore

@[expose] public section
set_option maxRecDepth 16384
noncomputable section
namespace Cert.KernelIdeal.Gen
open Cert.KernelIdeal Idealize.ShloMosaic Idealize.ShloMosaic.TcCoe Idealize.SL.Sem

/-! ## One stage of the kernel's two products

A stage multiplies a block of 256 inner positions: its right factor is a square of four scaled 128 by 128 tiles, and the
stage's product is added to the running sum. The program's payloads cut the same stage at different places; here they are
one form, and the form's value at an index is written out. -/

/-- A sum over 256 positions is the sum over its two halves. -/
theorem sum256 (f : Fin 256 → EReal) :
    ∑ r, f r = ∑ r : Fin 128, f ⟨r.val, by omega⟩ + ∑ r : Fin 128, f ⟨128 + r.val, by omega⟩ :=
  Fin.sum_univ_add (a := 128) (b := 128) f

/-- The square at a gate column of its upper half. -/
theorem quad00 (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32) (r n : Fin 128) :
    k0_pay6 (F := Ideal) a s b t c u d v (ix2 ⟨r.val, by omega⟩ ⟨n.val, by omega⟩) = a (ix2 r n) * s := by
  pointwise [k0_pay6]

/-- The square at a gate column of its lower half. -/
theorem quad10 (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32) (r n : Fin 128) :
    k0_pay6 (F := Ideal) a s b t c u d v (ix2 ⟨128 + r.val, by omega⟩ ⟨n.val, by omega⟩) = c (ix2 r n) * u := by
  pointwise [k0_pay6]

/-- The square at an up column of its upper half. -/
theorem quad01 (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32) (r n : Fin 128) :
    k0_pay6 (F := Ideal) a s b t c u d v (ix2 ⟨r.val, by omega⟩ ⟨128 + n.val, by omega⟩) = b (ix2 r n) * t := by
  pointwise [k0_pay6]

/-- The square at an up column of its lower half. -/
theorem quad11 (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32) (r n : Fin 128) :
    k0_pay6 (F := Ideal) a s b t c u d v (ix2 ⟨128 + r.val, by omega⟩ ⟨128 + n.val, by omega⟩) = d (ix2 r n) * v := by
  pointwise [k0_pay6]

/-- The first stage at an index. -/
theorem first_at (q : FVec Ideal S256x256 .bf16) (x : Vec Ideal S128x256 .bf16) (i : Fin 128) (j : Fin 256) :
    k0_pay7 (F := Ideal) q x (ix2 i j) = ∑ r : Fin 256, x (ix2 i r) * q (ix2 r j) := by
  pointwise [k0_pay7]

/-- A later stage at an index. -/
theorem later_at (acc : FVec Ideal S128x256 .f32) (q : FVec Ideal S256x256 .bf16) (x : Vec Ideal S128x256 .bf16) (i : Fin 128) (j : Fin 256) :
    k0_pay9 (F := Ideal) acc q x (ix2 i j) = acc (ix2 i j) + ∑ r : Fin 256, x (ix2 i r) * q (ix2 r j) := by
  pointwise [k0_pay9]

/-- The last stage of the second product, which is only 128 positions deep, at a left column. -/
theorem last0 (acc : FVec Ideal S128x256 .f32) (a : Vec Ideal S128x128 .fp8e4m3) (s : Elt Ideal .f32) (b : Vec Ideal S128x128 .fp8e4m3) (t : Elt Ideal .f32)
    (x : Vec Ideal S128x128 .bf16) (i n : Fin 128) :
    k0_pay5 (F := Ideal) acc (k0_pay57 a s) (k0_pay58 b) t x (ix2 i ⟨n.val, by omega⟩)
      = acc (ix2 i ⟨n.val, by omega⟩) + ∑ r : Fin 128, x (ix2 i r) * (a (ix2 r n) * s) := by
  pointwise [k0_pay5, k0_pay57, k0_pay58]

/-- The last stage of the second product at a right column. -/
theorem last1 (acc : FVec Ideal S128x256 .f32) (a : Vec Ideal S128x128 .fp8e4m3) (s : Elt Ideal .f32) (b : Vec Ideal S128x128 .fp8e4m3) (t : Elt Ideal .f32)
    (x : Vec Ideal S128x128 .bf16) (i n : Fin 128) :
    k0_pay5 (F := Ideal) acc (k0_pay57 a s) (k0_pay58 b) t x (ix2 i ⟨128 + n.val, by omega⟩)
      = acc (ix2 i ⟨128 + n.val, by omega⟩) + ∑ r : Fin 128, x (ix2 i r) * (b (ix2 r n) * t) := by
  pointwise [k0_pay5, k0_pay57, k0_pay58]

/-- A column of the square, multiplied out: at a gate column `n` the stage's sum is the two tiles' sums. -/
theorem stage0 (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32)
    (x : Vec Ideal S128x256 .bf16) (i n : Fin 128) :
    ∑ r : Fin 256, x (ix2 i r) * k0_pay6 (F := Ideal) a s b t c u d v (ix2 r ⟨n.val, by omega⟩)
      = ∑ r : Fin 128, x (ix2 i ⟨r.val, by omega⟩) * (a (ix2 r n) * s)
        + ∑ r : Fin 128, x (ix2 i ⟨128 + r.val, by omega⟩) * (c (ix2 r n) * u) := by
  rw [sum256]
  exact congr_arg₂ _ (Finset.sum_congr rfl fun r _ => congrArg _ (quad00 a s b t c u d v r n))
    (Finset.sum_congr rfl fun r _ => congrArg _ (quad10 a s b t c u d v r n))

/-- The same at an up column. -/
theorem stage1 (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32)
    (x : Vec Ideal S128x256 .bf16) (i n : Fin 128) :
    ∑ r : Fin 256, x (ix2 i r) * k0_pay6 (F := Ideal) a s b t c u d v (ix2 r ⟨128 + n.val, by omega⟩)
      = ∑ r : Fin 128, x (ix2 i ⟨r.val, by omega⟩) * (b (ix2 r n) * t)
        + ∑ r : Fin 128, x (ix2 i ⟨128 + r.val, by omega⟩) * (d (ix2 r n) * v) := by
  rw [sum256]
  exact congr_arg₂ _ (Finset.sum_congr rfl fun r _ => congrArg _ (quad01 a s b t c u d v r n))
    (Finset.sum_congr rfl fun r _ => congrArg _ (quad11 a s b t c u d v r n))

/-- The first stage at a left column, tile by tile. -/
theorem first0 (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32)
    (x : Vec Ideal S128x256 .bf16) (i n : Fin 128) :
    k0_pay7 (F := Ideal) (k0_pay6 a s b t c u d v) x (ix2 i ⟨n.val, by omega⟩)
      = ∑ r : Fin 128, x (ix2 i ⟨r.val, by omega⟩) * (a (ix2 r n) * s)
        + ∑ r : Fin 128, x (ix2 i ⟨128 + r.val, by omega⟩) * (c (ix2 r n) * u) :=
  (first_at _ _ _ _).trans (stage0 a s b t c u d v x i n)

/-- A later stage at a left column, tile by tile. -/
theorem later0 (acc : FVec Ideal S128x256 .f32) (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32)
    (x : Vec Ideal S128x256 .bf16) (i n : Fin 128) :
    k0_pay9 (F := Ideal) acc (k0_pay6 a s b t c u d v) x (ix2 i ⟨n.val, by omega⟩)
      = acc (ix2 i ⟨n.val, by omega⟩) + (∑ r : Fin 128, x (ix2 i ⟨r.val, by omega⟩) * (a (ix2 r n) * s)
        + ∑ r : Fin 128, x (ix2 i ⟨128 + r.val, by omega⟩) * (c (ix2 r n) * u)) :=
  (later_at _ _ _ _ _).trans (congrArg _ (stage0 a s b t c u d v x i n))

/-- The first stage at a right column, tile by tile. -/
theorem first1 (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32)
    (x : Vec Ideal S128x256 .bf16) (i n : Fin 128) :
    k0_pay7 (F := Ideal) (k0_pay6 a s b t c u d v) x (ix2 i ⟨128 + n.val, by omega⟩)
      = ∑ r : Fin 128, x (ix2 i ⟨r.val, by omega⟩) * (b (ix2 r n) * t)
        + ∑ r : Fin 128, x (ix2 i ⟨128 + r.val, by omega⟩) * (d (ix2 r n) * v) :=
  (first_at _ _ _ _).trans (stage1 a s b t c u d v x i n)

/-- A later stage at a right column, tile by tile. -/
theorem later1 (acc : FVec Ideal S128x256 .f32) (a : Vec Ideal S128x128 .fp8e4m3) (s : Elt Ideal .f32) (b : Vec Ideal S128x128 .fp8e4m3) (t : Elt Ideal .f32)
    (c : Vec Ideal S128x128 .fp8e4m3) (u : Elt Ideal .f32) (d : Vec Ideal S128x128 .fp8e4m3) (v : Elt Ideal .f32)
    (x : Vec Ideal S128x256 .bf16) (i n : Fin 128) :
    k0_pay9 (F := Ideal) acc (k0_pay6 a s b t c u d v) x (ix2 i ⟨128 + n.val, by omega⟩)
      = acc (ix2 i ⟨128 + n.val, by omega⟩) + (∑ r : Fin 128, x (ix2 i ⟨r.val, by omega⟩) * (b (ix2 r n) * t)
        + ∑ r : Fin 128, x (ix2 i ⟨128 + r.val, by omega⟩) * (d (ix2 r n) * v)) :=
  (later_at _ _ _ _ _).trans (congrArg _ (stage1 a s b t c u d v x i n))

/-- The activation of a full running sum: its left 128 columns are the gate, its right 128 the up projection. -/
def hOf (y : FVec Ideal S128x256 .f32) : FVec Ideal S128x128 .f32 :=
  mulf (mulf (extractStridedSlice S128x128 ![0, 0] y slices_S128x256_o0_0_S128x128)
    (logistic (extractStridedSlice S128x128 ![0, 0] y slices_S128x256_o0_0_S128x128)))
    (extractStridedSlice S128x128 ![0, 128] y slices_S128x256_o0_128_S128x128)

/-- The activation at an index. -/
theorem hOf_at (y : FVec Ideal S128x256 .f32) (i n : Fin 128) :
    hOf y (ix2 i n) = y (ix2 i ⟨n.val, by omega⟩) * Ideal.logistic (y (ix2 i ⟨n.val, by omega⟩)) * y (ix2 i ⟨128 + n.val, by omega⟩) := by
  pointwise [hOf]

variable (g u : Fin 16 → Vec Ideal S128x128 .fp8e4m3) (sg su : Fin 16 → Elt Ideal .f32) (x : Fin 8 → Vec Ideal S128x256 .bf16)

/-- The square of stage `e`: tiles `2e` and `2e + 1` of the gate and of the up weight. -/
def quadOf (e : Fin 8) : FVec Ideal S256x256 .bf16 :=
  k0_pay6 (g ⟨2 * e.val, by omega⟩) (sg ⟨2 * e.val, by omega⟩) (u ⟨2 * e.val, by omega⟩) (su ⟨2 * e.val, by omega⟩)
    (g ⟨2 * e.val + 1, by omega⟩) (sg ⟨2 * e.val + 1, by omega⟩) (u ⟨2 * e.val + 1, by omega⟩) (su ⟨2 * e.val + 1, by omega⟩)

/-- The first product's running sum after its eight stages. -/
def upSum : FVec Ideal S128x256 .f32 :=
  k0_pay9 (k0_pay9 (k0_pay9 (k0_pay9 (k0_pay9 (k0_pay9 (k0_pay9 (k0_pay7 (quadOf g u sg su 0) (x 0)) (quadOf g u sg su 1) (x 1))
    (quadOf g u sg su 2) (x 2)) (quadOf g u sg su 3) (x 3)) (quadOf g u sg su 4) (x 4)) (quadOf g u sg su 5) (x 5))
    (quadOf g u sg su 6) (x 6)) (quadOf g u sg su 7) (x 7)

/-- The same sum short of its last stage, as the program's payloads cut it. -/
def upCut : FVec Ideal S128x256 .f32 :=
  k0_pay28 (k0_pay23 (k0_pay18 (k0_pay14 (k0_pay11 (k0_pay9 (k0_pay7
    (k0_pay6 (g 0) (sg 0) (u 0) (su 0) (g 1) (sg 1) (u 1) (su 1)) (x 0))
    (k0_pay8 (g 2) (sg 2) (u 2) (su 2) (g 3) (sg 3) (u 3) (su 3)) (x 1))
    (k0_pay10 (g 4) (sg 4) (u 4) (su 4) (g 5) (sg 5) (u 5) (su 5)) (x 2))
    (k0_pay12 (g 6) (sg 6) (u 6) (su 6)) (k0_pay13 (g 7) (sg 7) (u 7) (su 7)) (x 3))
    (k0_pay15 (g 8) (sg 8) (u 8) (su 8)) (k0_pay16 (g 9) (sg 9)) (k0_pay17 (u 9) (su 9)) (x 4))
    (k0_pay19 (g 10) (sg 10) (u 10) (su 10)) (k0_pay20 (g 11) (sg 11)) (k0_pay21 (u 11)) (k0_pay22 (su 11)) (x 5))
    (k0_pay24 (g 12) (sg 12) (u 12) (su 12)) (k0_pay25 (g 13) (sg 13)) (k0_pay26 (u 13)) (k0_pay27 (su 13)) (x 6)

/-- The activation as the program's payloads cut it. -/
theorem upCut_eq : k0_pay32 (upCut g u sg su x) (k0_pay29 (g 14) (sg 14) (u 14) (su 14)) (k0_pay30 (g 15) (sg 15)) (k0_pay31 (u 15)) (su 15) (x 7)
    = hOf (upSum g u sg su x) := rfl

/-- Sixteen terms, added up in the order of the stages. -/
theorem sum16 (f : Fin 16 → EReal) : ∑ d, f d
    = f 0 + f 1 + (f 2 + f 3) + (f 4 + f 5) + (f 6 + f 7) + (f 8 + f 9) + (f 10 + f 11) + (f 12 + f 13) + (f 14 + f 15) := by
  rw [Fin.sum_univ_add (a := 8) (b := 8) f, Fin.sum_univ_eight, Fin.sum_univ_eight]
  simp only [add_assoc]
  rfl

/-- A sum over 2048 positions, sixteen blocks of 128. -/
theorem sum2048 (f : Fin 2048 → EReal) :
    ∑ K, f K = ∑ d : Fin 16, ∑ r : Fin 128, f ⟨128 * d.val + r.val, by omega⟩ := by
  rw [← Fintype.sum_prod_type', ← Equiv.sum_comp (finProdFinEquiv (m := 16) (n := 128)) f]
  exact Finset.sum_congr rfl fun p _ => congrArg f (Fin.ext (by simp [finProdFinEquiv, add_comm]))

/-- A sum over 1408 positions, eleven blocks of 128. -/
theorem sum1408 (f : Fin 1408 → EReal) :
    ∑ K, f K = ∑ d : Fin 11, ∑ r : Fin 128, f ⟨128 * d.val + r.val, by omega⟩ := by
  rw [← Fintype.sum_prod_type', ← Equiv.sum_comp (finProdFinEquiv (m := 11) (n := 128)) f]
  exact Finset.sum_congr rfl fun p _ => congrArg f (Fin.ext (by simp [finProdFinEquiv, add_comm]))

/-- Eleven terms, added up in the order of the stages. -/
theorem sum11 (f : Fin 11 → EReal) : ∑ d, f d
    = f 0 + f 1 + (f 2 + f 3) + (f 4 + f 5) + (f 6 + f 7) + (f 8 + f 9) + f 10 := by
  rw [Fin.sum_univ_castSucc, Fin.sum_univ_add (a := 8) (b := 2) _, Fin.sum_univ_eight, Fin.sum_univ_two]
  simp only [add_assoc]
  rfl

section
variable {g u sg su x}
variable (X : Fin 2048 → EReal) (G : Fin 2048 → EReal) (i n : Fin 128)

/-- The running sum at a gate column: one sum over the 2048 inner positions, when the tiles and the rows are the blocks of
    a column and of a row. -/
theorem upSum_gate
    (hx : ∀ (e : Fin 8) (r : Fin 256), x e (ix2 i r) = X ⟨256 * e.val + r.val, by omega⟩)
    (hg : ∀ (d : Fin 16) (r : Fin 128), g d (ix2 r n) * sg d = G ⟨128 * d.val + r.val, by omega⟩) :
    upSum g u sg su x (ix2 i ⟨n.val, by omega⟩) = ∑ K, X K * G K := by
  rw [sum2048, sum16]
  unfold upSum
  simp only [quadOf, later0, first0]
  simp only [hg, hx]
  rfl

/-- The running sum at an up column. -/
theorem upSum_up
    (hx : ∀ (e : Fin 8) (r : Fin 256), x e (ix2 i r) = X ⟨256 * e.val + r.val, by omega⟩)
    (hg : ∀ (d : Fin 16) (r : Fin 128), u d (ix2 r n) * su d = G ⟨128 * d.val + r.val, by omega⟩) :
    upSum g u sg su x (ix2 i ⟨128 + n.val, by omega⟩) = ∑ K, X K * G K := by
  rw [sum2048, sum16]
  unfold upSum
  simp only [quadOf, later1, first1]
  simp only [hg, hx]
  rfl

end

section
variable (a b : Fin 11 → Vec Ideal S128x128 .fp8e4m3) (sa sb : Fin 11 → Elt Ideal .f32) (y : Fin 5 → Vec Ideal S128x256 .bf16) (z : Vec Ideal S128x128 .bf16)

/-- The second product after five stages of 256 positions. -/
def downSum : FVec Ideal S128x256 .f32 :=
  k0_pay9 (k0_pay9 (k0_pay9 (k0_pay9 (k0_pay7
    (k0_pay6 (a 0) (sa 0) (b 0) (sb 0) (a 1) (sa 1) (b 1) (sb 1)) (y 0))
    (k0_pay6 (a 2) (sa 2) (b 2) (sb 2) (a 3) (sa 3) (b 3) (sb 3)) (y 1))
    (k0_pay6 (a 4) (sa 4) (b 4) (sb 4) (a 5) (sa 5) (b 5) (sb 5)) (y 2))
    (k0_pay6 (a 6) (sa 6) (b 6) (sb 6) (a 7) (sa 7) (b 7) (sb 7)) (y 3))
    (k0_pay6 (a 8) (sa 8) (b 8) (sb 8) (a 9) (sa 9) (b 9) (sb 9)) (y 4)

/-- The same as the program's payloads cut it. -/
def downCut : FVec Ideal S128x256 .f32 :=
  k0_pay56 (k0_pay53 (k0_pay50 (k0_pay46 (k0_pay43 (k0_pay41 (a 0) (sa 0) (b 0) (sb 0)) (k0_pay42 (a 1)) (sa 1) (b 1) (sb 1) (y 0))
    (k0_pay44 (a 2) (sa 2)) (k0_pay45 (b 2)) (sb 2) (a 3) (sa 3) (b 3) (sb 3) (y 1))
    (k0_pay47 (a 4) (sa 4) (b 4) (sb 4)) (k0_pay48 (a 5)) (k0_pay49 (sa 5)) (b 5) (sb 5) (y 2))
    (k0_pay51 (a 6) (sa 6)) (k0_pay52 (b 6)) (sb 6) (a 7) (sa 7) (b 7) (sb 7) (y 3))
    (k0_pay54 (a 8) (sa 8) (b 8) (sb 8)) (k0_pay55 (a 9) (sa 9)) (b 9) (sb 9) (y 4)

/-- The second product's steps, as the body cuts them, are the sum of the steps. -/
theorem downCut_eq : downCut a b sa sb y = downSum a b sa sb y := rfl

variable {a b sa sb y z}
variable (X : Fin 1408 → EReal) (G : Fin 1408 → EReal) (i n : Fin 128)

/-- The second product at a left column: one sum over its 1408 inner positions. -/
theorem down_left
    (hy : ∀ (e : Fin 5) (r : Fin 256), y e (ix2 i r) = X ⟨256 * e.val + r.val, by omega⟩)
  (hz : ∀ r : Fin 128, z (ix2 i r) = X ⟨1280 + r.val, by omega⟩)
    (hg : ∀ (d : Fin 11) (r : Fin 128), a d (ix2 r n) * sa d = G ⟨128 * d.val + r.val, by omega⟩) :
    k0_pay5 (F := Ideal) (downCut a b sa sb y) (k0_pay57 (a 10) (sa 10)) (k0_pay58 (b 10)) (sb 10) z (ix2 i ⟨n.val, by omega⟩)
      = ∑ K, X K * G K := by
  rw [sum1408, sum11, last0, downCut_eq]
  unfold downSum
  simp only [later0, first0]
  simp only [hg, hy, hz]
  rfl

/-- The second product at a right column. -/
theorem down_right
    (hy : ∀ (e : Fin 5) (r : Fin 256), y e (ix2 i r) = X ⟨256 * e.val + r.val, by omega⟩)
  (hz : ∀ r : Fin 128, z (ix2 i r) = X ⟨1280 + r.val, by omega⟩)
    (hg : ∀ (d : Fin 11) (r : Fin 128), b d (ix2 r n) * sb d = G ⟨128 * d.val + r.val, by omega⟩) :
    k0_pay5 (F := Ideal) (downCut a b sa sb y) (k0_pay57 (a 10) (sa 10)) (k0_pay58 (b 10)) (sb 10) z (ix2 i ⟨128 + n.val, by omega⟩)
      = ∑ K, X K * G K := by
  rw [sum1408, sum11, last1, downCut_eq]
  unfold downSum
  simp only [later1, first1]
  simp only [hg, hy, hz]
  rfl

end

end Cert.KernelIdeal.Gen
end
-- ==== Proof.Quant.lean ====
/- The power-of-two quantiser at the extended reals: the kernel finds the scale's exponent field by a
   search over bits, the reference takes the floor of a base-two logarithm; here both are shown to be
   the same function of the block's greatest magnitude. -/
module

public import Idealize.ShloMosaic.Lib.Pipeline.ValueKit
public import Idealize.ShloMosaic.Lib.Pointwise

@[expose] public section
noncomputable section
namespace Cert.Quant
open Idealize.ShloMosaic

/-- The extended real whose f32 word has exponent field `n` and nothing else. -/
def thr (n : ℕ) : EReal := Ideal.ofBits .f32 (BitVec.ofNat 32 (n * 8388608))

/-- The exponent field of such a word. -/
theorem word_exponent (n : ℕ) (h : n ≤ 255) : (BitVec.extractLsb' 23 8 (BitVec.ofNat 32 (n * 8388608))).toNat = n := by
  rw [BitVec.extractLsb'_toNat, BitVec.toNat_ofNat, Nat.shiftRight_eq_div_pow]; omega

/-- Its fraction is zero. -/
theorem word_fraction (n : ℕ) (h : n ≤ 255) : (BitVec.extractLsb' 0 23 (BitVec.ofNat 32 (n * 8388608))).toNat = 0 := by
  rw [BitVec.extractLsb'_toNat, BitVec.toNat_ofNat, Nat.shiftRight_eq_div_pow]; omega

/-- Its sign bit is clear. -/
theorem word_sign (n : ℕ) (h : n ≤ 255) : (BitVec.extractLsb' (8 + 23) 1 (BitVec.ofNat 32 (n * 8388608)) == 1#1) = false := by
  have : (BitVec.extractLsb' (8 + 23) 1 (BitVec.ofNat 32 (n * 8388608))).toNat = 0 := by
    rw [BitVec.extractLsb'_toNat, BitVec.toNat_ofNat, Nat.shiftRight_eq_div_pow]; omega
  rw [beq_eq_false_iff_ne]
  intro hh
  rw [hh] at this
  exact absurd this (by decide)

/-- What an f32 word stands for when its exponent field is `n` and its sign and fraction are zero. -/
theorem ofBits_fields (b : BitVec 32) (n : ℕ) (e1 : (BitVec.extractLsb' 23 8 b).toNat = n) (e2 : (BitVec.extractLsb' 0 23 b).toNat = 0)
    (e3 : (BitVec.extractLsb' (8 + 23) 1 b == 1#1) = false) :
    Ideal.ofBits .f32 b = if n = 255 then ⊤ else if n = 0 then 0 else (((2 : ℝ) ^ ((n : ℤ) - 127) : ℝ) : EReal) := by
  unfold Ideal.ofBits Ideal.ieee
  dsimp only
  rw [e1, e2, e3]
  by_cases h1 : n = 255
  · rw [if_pos (by rw [h1]; norm_num), if_pos rfl, if_pos h1]; rfl
  · rw [if_neg (by norm_num; exact h1), if_neg h1]
    by_cases h0 : n = 0
    · rw [if_pos h0, if_pos h0]
      simp
    · rw [if_neg h0, if_neg h0]
      congr 1
      rw [if_neg (by decide), one_mul, Nat.add_zero]
      rw [show (((2 ^ 23 : ℕ) : ℕ) : ℝ) = (2 : ℝ) ^ (23 : ℤ) by norm_num, ← zpow_add₀ (by norm_num)]
      congr 1
      norm_num

/-- A threshold by its fields. -/
theorem thr_fields (n : ℕ) (h : n ≤ 255) :
    thr n = if n = 255 then ⊤ else if n = 0 then 0 else (((2 : ℝ) ^ ((n : ℤ) - 127) : ℝ) : EReal) :=
  ofBits_fields _ n (word_exponent n h) (word_fraction n h) (word_sign n h)

/-- The least threshold is zero. -/
theorem thr_zero : thr 0 = 0 := by rw [thr_fields 0 (by norm_num)]; simp
/-- The greatest threshold is infinity. -/
theorem thr_top : thr 255 = ⊤ := by rw [thr_fields 255 (by norm_num)]; simp
/-- Exponent field `n` of a normal number stands for two to the power `n - 127`. -/
theorem thr_mid (n : ℕ) (h1 : 1 ≤ n) (h2 : n ≤ 254) : thr n = (((2 : ℝ) ^ ((n : ℤ) - 127) : ℝ) : EReal) := by
  rw [thr_fields n (by omega), if_neg (by omega), if_neg (by omega)]

/-- What an f32 word of a normal number stands for. -/
theorem ofBits_normal (b : BitVec 32) (s : Bool) (x f : ℕ) (hs : (BitVec.extractLsb' (8 + 23) 1 b == 1#1) = s)
    (hx : (BitVec.extractLsb' 23 8 b).toNat = x) (hf : (BitVec.extractLsb' 0 23 b).toNat = f) (h0 : x ≠ 0) (h1 : x ≠ 255) :
    Ideal.ofBits .f32 b = (((if s then -1 else 1) * (8388608 + f : ℕ) * (2 : ℝ) ^ ((x : ℤ) - 150) : ℝ) : EReal) := by
  unfold Ideal.ofBits Ideal.ieee
  dsimp only
  rw [hs, hx, hf, if_neg (by norm_num; exact h1), if_neg h0]
  congr 3
  norm_num
  ring

/-- One step of the kernel's search: keep the exponent field `e` if `t` is below the number of field
    `e + b`, else take `e + b`. -/
def step (t : EReal) (e b : BitVec 32) : BitVec 32 :=
  Scalar.select (FloatOps.cmpf (F := Ideal) (φ := .f32) .olt t (Ideal.ofBits .f32 (IntOp.shli .vector (IntOp.addi e b) 23#32))) e (IntOp.addi e b)

/-- A step at words of naturals. -/
theorem step_nat (t : EReal) (n b : ℕ) (h : n + b ≤ 255) :
    step t (BitVec.ofNat 32 n) (BitVec.ofNat 32 b) = BitVec.ofNat 32 (if t < thr (n + b) then n else n + b) := by
  have e : IntOp.addi (BitVec.ofNat 32 n) (BitVec.ofNat 32 b) = BitVec.ofNat 32 (n + b) := by
    unfold IntOp.addi; rw [BitVec.ofNat_add]
  have s : IntOp.shli .vector (BitVec.ofNat 32 (n + b)) 23#32 = BitVec.ofNat 32 ((n + b) * 8388608) := by
    unfold IntOp.shli
    apply BitVec.eq_of_toNat_eq
    simp [Nat.shiftLeft_eq]
  unfold step
  rw [e, s]
  have hc : Ideal.ofBits .f32 (BitVec.ofNat 32 ((n + b) * 8388608)) = thr (n + b) := rfl
  rw [hc]
  pointwise
  split <;> rfl

/-- What the search knows between steps: the field found so far, its number at most `t`, and `t` below
    the number `w` fields on (or no such field). -/
def Found (t : EReal) (w : ℕ) (e : BitVec 32) : Prop :=
  ∃ n, e = BitVec.ofNat 32 n ∧ n + w ≤ 256 ∧ thr n ≤ t ∧ (n + w = 256 ∨ t < thr (n + w))

/-- A step halves the gap. -/
theorem Found.step {t : EReal} {e : BitVec 32} (b : ℕ) (hb : 0 < b) (h : Found t (2 * b) e) :
    Found t b (step t e (BitVec.ofNat 32 b)) := by
  obtain ⟨n, rfl, hn, hl, hu⟩ := h
  rw [step_nat t n b (by omega)]
  by_cases hc : t < thr (n + b)
  · rw [if_pos hc]; exact ⟨n, rfl, by omega, hl, .inr hc⟩
  · rw [if_neg hc]
    refine ⟨n + b, rfl, by omega, not_lt.mp hc, ?_⟩
    rcases hu with hu | hu
    · left; omega
    · right; rwa [show n + b + b = n + 2 * b by omega]

/-- The kernel's search, eight steps from zero. -/
def search (t : EReal) : BitVec 32 :=
  step t (step t (step t (step t (step t (step t (step t (step t 0#32 128#32) 64#32) 32#32) 16#32) 8#32) 4#32) 2#32) 1#32

/-- The search finds the greatest threshold that is not above. -/
theorem search_found (t : EReal) (ht : 0 ≤ t) : Found t 1 (search t) := by
  have h0 : Found t (2 * 128) 0#32 := ⟨0, rfl, by norm_num, by rwa [thr_zero], .inl rfl⟩
  exact (((((((h0.step 128 (by norm_num)).step 64 (by norm_num)).step 32 (by norm_num)).step 16 (by norm_num)).step 8
    (by norm_num)).step 4 (by norm_num)).step 2 (by norm_num)).step 1 (by norm_num)

/-- The kernel's exponent word: the field found, at most 252, in its place in the word. -/
def field (t : EReal) : BitVec 32 := IntOp.shli .vector (IntOp.minsi (search t) 252#32) 23#32

/-- The kernel's scale. -/
def kscale (t : EReal) : EReal :=
  Ideal.ofBits .f32 (Scalar.select (FloatOps.cmpf (F := Ideal) (φ := .f32) .oeq t (Ideal.ofBits .f32 0#32)) 1065353216#32 (IntOp.addi (field t) 8388608#32))
/-- The kernel's reciprocal scale. -/
def kinv (t : EReal) : EReal :=
  Ideal.ofBits .f32 (Scalar.select (FloatOps.cmpf (F := Ideal) (φ := .f32) .oeq t (Ideal.ofBits .f32 0#32)) 1065353216#32 (IntOp.subi 2122317824#32 (field t)))

/-- The exponent word at the field found. -/
theorem field_nat (t : EReal) (n : ℕ) (h : n ≤ 255) (e : search t = BitVec.ofNat 32 n) :
    field t = BitVec.ofNat 32 (min n 252 * 8388608) := by
  have hm : IntOp.minsi (BitVec.ofNat 32 n) 252#32 = BitVec.ofNat 32 (min n 252) := by
    unfold IntOp.minsi
    have : (BitVec.ofNat 32 n).slt 252#32 = decide (n < 252) := by
      rw [BitVec.slt_eq_decide, decide_eq_decide]
      have : (BitVec.ofNat 32 n).toInt = n := by
        rw [BitVec.toInt_eq_toNat_of_lt] <;> simp <;> omega
      rw [this, show (252#32).toInt = 252 by decide]
      omega
    rw [this]
    by_cases hn : n < 252
    · simp [hn, min_eq_left hn.le]
    · simp [hn, min_eq_right (not_lt.mp hn)]
  unfold field
  rw [e, hm]
  unfold IntOp.shli
  apply BitVec.eq_of_toNat_eq
  simp [Nat.shiftLeft_eq]

/-- The constant the block maximum is multiplied by: the f32 word nearest to one 448th. -/
def c448 : EReal := Ideal.ofBits .f32 991054117#32

/-- The constant is a positive real. -/
theorem c448_pos : ∃ r : ℝ, 0 < r ∧ c448 = (r : EReal) :=
  ⟨_, by norm_num, ofBits_normal _ false 118 1198373 (by decide) (by decide) (by decide) (by decide) (by decide)⟩

/-- The reference's exponent: the clipped floor of the base-two logarithm, plus one; zero at zero. -/
def rexp (a : EReal) : EReal :=
  if a = 0 then 0 else min (Ideal.ofBits .f32 1123811328#32) (max (Ideal.ofBits .f32 3271294976#32)
    (Ideal.liftRound Int.floor (Ideal.div (Ideal.log (a * c448)) (Ideal.log (Ideal.ofBits .f32 1073741824#32))) + 1))

/-- The upper clip of the exponent is 126. -/
theorem of126 : Ideal.ofBits .f32 1123811328#32 = ((126 : ℝ) : EReal) := by
  rw [ofBits_normal _ false 133 8126464 (by decide) (by decide) (by decide) (by decide) (by decide)]; norm_num
/-- The lower clip of the exponent is -126. -/
theorem ofm126 : Ideal.ofBits .f32 3271294976#32 = ((-126 : ℝ) : EReal) := by
  rw [ofBits_normal _ true 133 8126464 (by decide) (by decide) (by decide) (by decide) (by decide)]; norm_num
/-- The base of the logarithm is 2. -/
theorem of2 : Ideal.ofBits .f32 1073741824#32 = ((2 : ℝ) : EReal) := by
  rw [ofBits_normal _ false 128 0 (by decide) (by decide) (by decide) (by decide) (by decide)]; norm_num

/-- The reference's exponent at a positive maximum: the field the kernel finds, less 126. -/
theorem rexp_field (a : EReal) (ha : 0 < a) (n : ℕ) (hn : n ≤ 255) (hl : thr n ≤ a * c448)
    (hu : n = 255 ∨ a * c448 < thr (n + 1)) :
    rexp a = (((min n 252 : ℕ) - 126 : ℝ) : EReal) := by
  obtain ⟨c, hc, ec⟩ := c448_pos
  have hlog2 : (0 : ℝ) < Real.log 2 := Real.log_pos (by norm_num)
  unfold rexp
  rw [if_neg ha.ne', of126, ofm126, of2, ec]
  rw [ec] at hl hu
  have hdiv : ∀ x, Ideal.div x (Ideal.log ((2 : ℝ) : EReal)) = x * ((1 / Real.log 2 : ℝ) : EReal) := by
    intro x
    rw [Ideal.log_coe, if_neg (by norm_num), Ideal.div_coe hlog2.ne']
  rw [hdiv]
  induction a using EReal.rec with
  | bot => simp at ha
  | top =>
    rw [EReal.top_mul_coe_of_pos hc] at hl hu ⊢
    have : n = 255 := by
      rcases hu with h | h
      · exact h
      · exact absurd h (by simp)
    subst this
    rw [Ideal.log_top, EReal.top_mul_coe_of_pos (by positivity), Ideal.liftRound_top]
    rw [show (⊤ : EReal) + 1 = ⊤ from EReal.top_add_of_ne_bot (by decide)]
    rw [max_eq_right le_top, min_eq_left le_top]
    norm_num
  | coe r =>
    have hr : 0 < r := by exact_mod_cast ha
    have ht : 0 < r * c := by positivity
    rw [← EReal.coe_mul] at hl hu ⊢
    rw [Ideal.log_coe, if_neg (not_le.mpr ht), ← EReal.coe_mul, Ideal.liftRound_coe]
    have hn' : n ≠ 255 := by
      rintro rfl
      rw [thr_top] at hl
      exact absurd (top_le_iff.mp hl) (EReal.coe_ne_top _)
    have hu' : ((r * c : ℝ) : EReal) < thr (n + 1) := hu.resolve_left hn'
    rw [mul_one_div]
    have up : n ≤ 253 → ⌊(Real.log (r * c) / Real.log 2)⌋ ≤ (n : ℤ) - 127 := by
      intro h3
      rw [thr_mid (n + 1) (by omega) (by omega)] at hu'
      have h4 : r * c < (2 : ℝ) ^ (((n + 1 : ℕ) : ℤ) - 127) := by exact_mod_cast hu'
      have : (Real.log (r * c) / Real.log 2) < (((n + 1 : ℕ) : ℤ) - 127 : ℤ) := by
        rw [div_lt_iff₀ hlog2, ← Real.log_zpow]; exact Real.log_lt_log ht h4
      have := Int.floor_lt.mpr this
      push_cast at this
      omega
    have lo : 1 ≤ n → (n : ℤ) - 127 ≤ ⌊(Real.log (r * c) / Real.log 2)⌋ := by
      intro h3
      rw [thr_mid n h3 (by omega)] at hl
      have h4 : (2 : ℝ) ^ ((n : ℤ) - 127) ≤ r * c := by exact_mod_cast hl
      rw [Int.le_floor, le_div_iff₀ hlog2, ← Real.log_zpow]; exact Real.log_le_log (by positivity) h4
    have key : min (126 : ℤ) (max (-126) (⌊(Real.log (r * c) / Real.log 2)⌋ + 1)) = ((min n 252 : ℕ) : ℤ) - 126 := by
      by_cases h3 : n ≤ 253
      · have := up h3
        by_cases h4 : 1 ≤ n
        · have := lo h4; omega
        · omega
      · have := lo (by omega); omega
    have e1 : (1 : EReal) = ((1 : ℝ) : EReal) := rfl
    rw [e1, ← EReal.coe_add, ← EReal.coe_strictMono.monotone.map_max, ← EReal.coe_strictMono.monotone.map_min]
    congr 1
    have := congrArg (fun z : ℤ => (z : ℝ)) key
    push_cast at this
    push_cast
    exact this

/-- What the search found, with the field's word. -/
theorem exists_field (a : EReal) (ha : 0 < a) : ∃ n : ℕ, n ≤ 255 ∧ field (a * c448) = BitVec.ofNat 32 (min n 252 * 8388608) ∧
    rexp a = (((min n 252 : ℕ) - 126 : ℝ) : EReal) := by
  obtain ⟨c, hc, ec⟩ := c448_pos
  have ht : 0 ≤ a * c448 := mul_nonneg ha.le (by rw [ec]; exact_mod_cast hc.le)
  obtain ⟨n, e, h1, hl, hu⟩ := search_found _ ht
  exact ⟨n, by omega, field_nat _ n (by omega) e, rexp_field a ha n (by omega) hl (by
    rcases hu with h | h
    · left; omega
    · right; exact h)⟩

/-- The scaled magnitude is zero when the magnitude is. -/
theorem t_zero_iff (a : EReal) : a * c448 = 0 ↔ a = 0 := by
  obtain ⟨c, hc, ec⟩ := c448_pos
  rw [ec, mul_eq_zero]
  constructor
  · rintro (h | h)
    · exact h
    · exact absurd h (by exact_mod_cast hc.ne')
  · exact .inl

/-- The select on a comparison with zero is an `if`. -/
theorem select_zero (t : EReal) (x y : BitVec 32) :
    Scalar.select (FloatOps.cmpf (F := Ideal) (φ := .f32) .oeq t (Ideal.ofBits .f32 0#32)) x y = if t = 0 then x else y := by
  pointwise

/-- The kernel's scale is two to the reference's exponent. -/
theorem kscale_eq (a : EReal) (ha : 0 ≤ a) : kscale (a * c448) = Ideal.exp2 (rexp a) := by
  unfold kscale
  rw [select_zero]
  by_cases h0 : a = 0
  · rw [if_pos ((t_zero_iff a).mpr h0)]
    have : rexp a = ((0 : ℝ) : EReal) := by unfold rexp; rw [if_pos h0]; rfl
    rw [this, Ideal.exp2_coe]
    show Ideal.ofBits .f32 1065353216#32 = _
    rw [ofBits_normal _ false 127 0 (by decide) (by decide) (by decide) (by decide) (by decide)]
    norm_num
  · rw [if_neg (mt (t_zero_iff a).mp h0)]
    obtain ⟨n, hn, hf, hr⟩ := exists_field a (lt_of_le_of_ne ha (Ne.symm h0))
    rw [hf, hr, Ideal.exp2_coe]
    have : IntOp.addi (BitVec.ofNat 32 (min n 252 * 8388608)) 8388608#32 = BitVec.ofNat 32 ((min n 252 + 1) * 8388608) := by
      unfold IntOp.addi; rw [Nat.add_mul, BitVec.ofNat_add]
    rw [this]
    show thr _ = _
    rw [thr_mid _ (by omega) (by omega)]
    congr 1
    rw [← Real.rpow_intCast]
    rw [Real.rpow_eq_pow]
    congr 1
    push_cast
    ring

/-- The word of the reciprocal's exponent field. -/
theorem sub_field (k : ℕ) (hk : k ≤ 253) :
    IntOp.subi 2122317824#32 (BitVec.ofNat 32 (k * 8388608)) = BitVec.ofNat 32 ((253 - k) * 8388608) := by
  obtain ⟨j, rfl⟩ : ∃ j, k = 253 - j := ⟨253 - k, by omega⟩
  interval_cases h : 253 - j <;> decide

/-- The kernel's reciprocal scale is two to minus the reference's exponent. -/
theorem kinv_eq (a : EReal) (ha : 0 ≤ a) : kinv (a * c448) = Ideal.exp2 (0 - rexp a) := by
  unfold kinv
  rw [select_zero]
  by_cases h0 : a = 0
  · rw [if_pos ((t_zero_iff a).mpr h0)]
    have : 0 - rexp a = ((0 : ℝ) : EReal) := by unfold rexp; rw [if_pos h0]; simp
    rw [this, Ideal.exp2_coe]
    show Ideal.ofBits .f32 1065353216#32 = _
    rw [ofBits_normal _ false 127 0 (by decide) (by decide) (by decide) (by decide) (by decide)]
    norm_num
  · rw [if_neg (mt (t_zero_iff a).mp h0)]
    obtain ⟨n, hn, hf, hr⟩ := exists_field a (lt_of_le_of_ne ha (Ne.symm h0))
    rw [hf, hr]
    rw [sub_field (min n 252) (by omega), show (0 : EReal) - (((min n 252 : ℕ) - 126 : ℝ) : EReal) = ((126 - (min n 252 : ℕ) : ℝ) : EReal) by
      rw [show (0 : EReal) = ((0 : ℝ) : EReal) from rfl, ← EReal.coe_sub]; congr 1; ring, Ideal.exp2_coe]
    show thr _ = _
    rw [thr_mid _ (by omega) (by omega)]
    congr 1
    rw [← Real.rpow_intCast]
    rw [Real.rpow_eq_pow]
    have h3 : ((253 - min n 252 : ℕ) : ℤ) = 253 - ((min n 252 : ℕ) : ℤ) := by omega
    rw [h3]
    generalize min n 252 = k
    congr 1
    push_cast
    ring

end Cert.Quant
end
-- ==== Proof.KQuant.lean ====
/- The kernel's quantiser at the extended reals: the codes and the scale of a row of a 128 by 128 block are functions of the
   row's largest magnitude, by the exponent of `Proof/Quant.lean`. -/
module

public import proofs.«01_k».proof.Proof.KStage
public import proofs.«01_k».proof.Proof.Quant
public import Idealize.ShloMosaic.Lib.Pipeline.ValueKit
public import Idealize.ShloMosaic.Lib.Pointwise
public import Idealize.ShloMosaic.Lib.PointwiseCore

@[expose] public section
set_option maxRecDepth 16384
noncomputable section
namespace Cert.KernelIdeal.Gen
open Cert.KernelIdeal Idealize.ShloMosaic Idealize.ShloMosaic.TcCoe Idealize.SL.Sem

/-! ## The kernel's row quantiser at an index -/

/-- The largest magnitude of a row of 128 activations, as both programs reduce it. -/
def amax (h : Fin 128 → EReal) : EReal :=
  Finset.fold max (Ideal.ofBits .f32 4286578688#32) (fun x => FloatOps.absf (F := Ideal) (φ := .f32) (h x)) Finset.univ

/-- A row's largest magnitude is not negative. -/
theorem amax_nonneg (h : Fin 128 → EReal) : 0 ≤ amax h := by
  unfold amax
  rw [Finset.le_fold_max]
  refine Or.inr ⟨0, Finset.mem_univ _, ?_⟩
  show (0 : EReal) ≤ max (h 0) (-(h 0))
  rcases le_total 0 (h 0) with h0 | h0
  · exact le_max_of_le_left h0
  · exact le_max_of_le_right (by rw [EReal.neg_nonneg]; exact h0)

/-- A code: the activation by the row's inverse scale, held within the format's range. -/
def codeOf (a v : EReal) : EReal :=
  min (Ideal.ofBits .f32 1138753536#32) (max (Ideal.ofBits .f32 3286237184#32) (v * Ideal.exp2 (0 - Cert.Quant.rexp a)))

/-- The scaled largest magnitude of each row. -/
def tOf (h : FVec Ideal S128x128 .f32) : FVec Ideal S128x1 .f32 :=
  mulf (shapeCast S128x1 (multiReduction .maximumf [1] S128 (absf h) 0xFF800000#32 reduces_S128x128_S128 (.inl rfl) rfl) shapeCasts_S128_S128x1)
    (broadcast S128x1 (Scalar.ofBits .f32 0x3B124925#32))

/-- The scaled largest magnitude of a row. -/
theorem tOf_at (h : FVec Ideal S128x128 .f32) (i : Fin 128) : tOf h (ix2 i 0) = amax (fun x => h (ix2 i x)) * Cert.Quant.c448 := by
  unfold amax Cert.Quant.c448
  pointwise [tOf]

/-- One step of the program's search, over a column. -/
def vstep (t : FVec Ideal S128x1 .f32) (e : IVec S128x1 32) (b : BitVec 32) : IVec S128x1 32 :=
  select (cmpf .olt t (bitcastToFloat (F := Ideal) .f32 (shli (addi e (broadcast S128x1 b)) (broadcast S128x1 23#32)))) e (addi e (broadcast S128x1 b))

/-- One step of the search over a vector. -/
theorem vstep_eq (t : FVec Ideal S128x1 .f32) (e : IVec S128x1 32) (b : BitVec 32) :
    select (cmpf .olt t (bitcastToFloat (F := Ideal) .f32 (shli (addi e (broadcast S128x1 b)) (broadcast S128x1 23#32)))) e (addi e (broadcast S128x1 b))
      = vstep t e b := rfl

/-- One step of the search at a row is the scalar step. -/
theorem vstep_at (t : FVec Ideal S128x1 .f32) (e : IVec S128x1 32) (b : BitVec 32) (i : Fin 128) :
    vstep t e b (ix2 i 0) = Cert.Quant.step (t (ix2 i 0)) (e (ix2 i 0)) b := rfl

section
variable (v456 : FVec Ideal S128x256 .f32) (v475 : FVec Ideal S128x256 .bf16) (v484 : FVec Ideal S128x128 .bf16) (v487 : FVec Ideal S128x128 .bf16)
  (v490 : Elt Ideal .f32) (v496 : Vec Ideal S128x256 .bf16)

/-- The value whose exponent is searched is the scaled largest magnitude. -/
theorem pay33_eq : k0_pay33 v456 v475 v484 v487 v490 v496 = tOf (k0_pay32 v456 v475 v484 v487 v490 v496) := rfl

/-- The program's exponent word is the quantiser's. -/
theorem field_bits (i : Fin 128) : k0_pay37 (k0_pay33 v456 v475 v484 v487 v490 v496) (k0_pay34 v456 v475 v484 v487 v490 v496)
      (k0_pay35 v456 v475 v484 v487 v490 v496) (k0_pay36 v456 v475 v484 v487 v490 v496) (ix2 i 0)
    = Cert.Quant.field (k0_pay33 v456 v475 v484 v487 v490 v496 (ix2 i 0)) := by
  have h : k0_pay37 (k0_pay33 v456 v475 v484 v487 v490 v496) (k0_pay34 v456 v475 v484 v487 v490 v496)
      (k0_pay35 v456 v475 v484 v487 v490 v496) (k0_pay36 v456 v475 v484 v487 v490 v496)
      = shli (minsi (vstep (k0_pay33 v456 v475 v484 v487 v490 v496) (vstep (k0_pay33 v456 v475 v484 v487 v490 v496)
        (vstep (k0_pay33 v456 v475 v484 v487 v490 v496) (vstep (k0_pay33 v456 v475 v484 v487 v490 v496)
        (vstep (k0_pay33 v456 v475 v484 v487 v490 v496) (vstep (k0_pay33 v456 v475 v484 v487 v490 v496)
        (vstep (k0_pay33 v456 v475 v484 v487 v490 v496) (vstep (k0_pay33 v456 v475 v484 v487 v490 v496)
        (broadcast S128x1 0#32) 128#32) 64#32) 32#32) 16#32) 8#32) 4#32) 2#32) 1#32) (broadcast S128x1 252#32)) (broadcast S128x1 23#32) := by
    unfold k0_pay37 k0_pay36 k0_pay35 k0_pay34
    dsimp only
    generalize k0_pay33 v456 v475 v484 v487 v490 v496 = t
    dsimp only [vstep]
  rw [h]
  generalize k0_pay33 v456 v475 v484 v487 v490 v496 = t
  show IntOp.shli .vector (IntOp.minsi (vstep _ _ _ (ix2 i 0)) 252#32) 23#32 = _
  simp only [vstep_at]
  rfl

/-- The program's scale is the quantiser's scale of its scaled largest magnitude; -/
theorem scale_bits (i : Fin 128) : k0_pay39 (k0_pay33 v456 v475 v484 v487 v490 v496) (k0_pay34 v456 v475 v484 v487 v490 v496)
      (k0_pay35 v456 v475 v484 v487 v490 v496) (k0_pay36 v456 v475 v484 v487 v490 v496) (ix2 i 0)
    = Cert.Quant.kscale (k0_pay33 v456 v475 v484 v487 v490 v496 (ix2 i 0)) := by
  show Ideal.ofBits .f32 (Scalar.select (FloatOps.cmpf (F := Ideal) (φ := .f32) .oeq (k0_pay33 v456 v475 v484 v487 v490 v496 (ix2 i 0))
    (Ideal.ofBits .f32 0#32)) 1065353216#32 (IntOp.addi (k0_pay37 _ _ _ _ (ix2 i 0)) 8388608#32)) = _
  rw [field_bits]
  rfl

/-- and so is its inverse scale. -/
theorem inv_bits (i : Fin 128) : k0_pay40 (k0_pay33 v456 v475 v484 v487 v490 v496) (k0_pay34 v456 v475 v484 v487 v490 v496)
      (k0_pay35 v456 v475 v484 v487 v490 v496) (k0_pay36 v456 v475 v484 v487 v490 v496) (ix2 i 0)
    = Cert.Quant.kinv (k0_pay33 v456 v475 v484 v487 v490 v496 (ix2 i 0)) := by
  show Ideal.ofBits .f32 (Scalar.select (FloatOps.cmpf (F := Ideal) (φ := .f32) .oeq (k0_pay33 v456 v475 v484 v487 v490 v496 (ix2 i 0))
    (Ideal.ofBits .f32 0#32)) 1065353216#32 (IntOp.subi 2122317824#32 (k0_pay37 _ _ _ _ (ix2 i 0)))) = _
  rw [field_bits]
  rfl

variable {h : FVec Ideal S128x128 .f32} (hh : k0_pay32 v456 v475 v484 v487 v490 v496 = h)
include hh

/-- The program's scale of row `i`. -/
theorem scale_at (i : Fin 128) : k0_pay39 (k0_pay33 v456 v475 v484 v487 v490 v496) (k0_pay34 v456 v475 v484 v487 v490 v496)
      (k0_pay35 v456 v475 v484 v487 v490 v496) (k0_pay36 v456 v475 v484 v487 v490 v496) (ix2 i 0)
    = Ideal.exp2 (Cert.Quant.rexp (amax fun x => h (ix2 i x))) := by
  rw [scale_bits, pay33_eq, hh, tOf_at, Cert.Quant.kscale_eq _ (amax_nonneg _)]

/-- The program's inverse scale of row `i`. -/
theorem inv_at (i : Fin 128) : k0_pay40 (k0_pay33 v456 v475 v484 v487 v490 v496) (k0_pay34 v456 v475 v484 v487 v490 v496)
      (k0_pay35 v456 v475 v484 v487 v490 v496) (k0_pay36 v456 v475 v484 v487 v490 v496) (ix2 i 0)
    = Ideal.exp2 (0 - Cert.Quant.rexp (amax fun x => h (ix2 i x))) := by
  rw [inv_bits, pay33_eq, hh, tOf_at, Cert.Quant.kinv_eq _ (amax_nonneg _)]

omit hh in
/-- The codes at an index. -/
theorem pay3_at (h : FVec Ideal S128x128 .f32) (w : FVec Ideal S128x1 .f32) (i n : Fin 128) : k0_pay3 h w (ix2 i n)
    = min (Ideal.ofBits .f32 1138753536#32) (max (Ideal.ofBits .f32 3286237184#32) (h (ix2 i n) * w (ix2 i 0))) := by
  pointwise [k0_pay3]

omit hh in
/-- The scale at a row. -/
theorem pay4_at (h : FVec Ideal S128x128 .f32) (s w : FVec Ideal S128x1 .f32) (i n : Fin 128) : k0_pay4 h s w (ix2 i n)
    = min (Ideal.ofBits .f32 1138753536#32) (max (Ideal.ofBits .f32 3286237184#32) (h (ix2 i n) * w (ix2 i 0))) * s (ix2 i 0) := by
  pointwise [k0_pay4, k0_pay3]

/-- The program's code of an activation. -/
theorem code_at (i n : Fin 128) : k0_pay3 (k0_pay32 v456 v475 v484 v487 v490 v496) (k0_pay40 (k0_pay33 v456 v475 v484 v487 v490 v496)
      (k0_pay34 v456 v475 v484 v487 v490 v496) (k0_pay35 v456 v475 v484 v487 v490 v496) (k0_pay36 v456 v475 v484 v487 v490 v496)) (ix2 i n)
    = codeOf (amax fun x => h (ix2 i x)) (h (ix2 i n)) := by
  rw [pay3_at, inv_at v456 v475 v484 v487 v490 v496 hh, hh]; rfl

/-- The program's dequantised code. -/
theorem deq_at (i n : Fin 128) : k0_pay4 (k0_pay32 v456 v475 v484 v487 v490 v496) (k0_pay39 (k0_pay33 v456 v475 v484 v487 v490 v496)
      (k0_pay34 v456 v475 v484 v487 v490 v496) (k0_pay35 v456 v475 v484 v487 v490 v496) (k0_pay36 v456 v475 v484 v487 v490 v496))
      (k0_pay40 (k0_pay33 v456 v475 v484 v487 v490 v496)
      (k0_pay34 v456 v475 v484 v487 v490 v496) (k0_pay35 v456 v475 v484 v487 v490 v496) (k0_pay36 v456 v475 v484 v487 v490 v496)) (ix2 i n)
    = codeOf (amax fun x => h (ix2 i x)) (h (ix2 i n)) * Ideal.exp2 (Cert.Quant.rexp (amax fun x => h (ix2 i x))) := by
  rw [pay4_at, inv_at v456 v475 v484 v487 v490 v496 hh, scale_at v456 v475 v484 v487 v490 v496 hh, hh]; rfl
end

end Cert.KernelIdeal.Gen
end
-- ==== Proof.KTrip.lean ====
/- What one trip of the first loop stores: the codes, the scales and the requantised block of hidden columns `j`, as functions
   of the row block's scaled tokens and of the expert's weights. -/
module

public import proofs.«01_k».proof.Proof.KQuant
public import Idealize.ShloMosaic.Lib.Pipeline.ReadBack
public import Idealize.ShloMosaic.Lib.Pipeline.ValueKit
public import Idealize.ShloMosaic.Lib.Pointwise
public import Idealize.ShloMosaic.Lib.PointwiseCore

@[expose] public section
set_option maxRecDepth 16384
noncomputable section
namespace Cert.KernelIdeal.Gen
open Cert.KernelIdeal Idealize.ShloMosaic Idealize.ShloMosaic.TcCoe Idealize.SL.Sem

/-! ## A trip of the first loop at an index -/

/-- The activation from a row of the dequantised input and a gate and an up column of the dequantised weight. -/
def hAt (X G U : Fin 2048 → EReal) : EReal := (∑ K, X K * G K) * Ideal.logistic (∑ K, X K * G K) * ∑ K, X K * U K

section
variable (s : S1x1x528.Idx → EReal) (xb : S128x2048.Idx → EReal) (wg wu : S2048x1408.Idx → EReal)

/-- Column `q` of the dequantised gate weight. -/
def gateW (q : Fin 1408) (K : Fin 2048) : EReal := wg (ix2 K q) * s (ix3 0 0 ⟨22 * (K.val / 128) + q.val / 128, by omega⟩)

/-- Column `q` of the dequantised up weight. -/
def upW (q : Fin 1408) (K : Fin 2048) : EReal := wu (ix2 K q) * s (ix3 0 0 ⟨22 * (K.val / 128) + 11 + q.val / 128, by omega⟩)

/-- The activation at row `i`, column `q` of a block. -/
def hK (i : Fin 128) (q : Fin 1408) : EReal := hAt (fun K => xb (ix2 i K)) (gateW s wg q) (upW s wu q)

/-- The largest magnitude of row `i` in the `j`-th 128 columns. -/
def amaxK (i : Fin 128) (j : Fin 11) : EReal := amax fun n => hK s xb wg wu i ⟨128 * j.val + n.val, by omega⟩

/-- The code at row `i`, column `q`. -/
def codeK (i : Fin 128) (q : Fin 1408) : EReal := codeOf (amaxK s xb wg wu i ⟨q.val / 128, by omega⟩) (hK s xb wg wu i q)

/-- The scale of row `i` in the `j`-th 128 columns. -/
def scaleK (i : Fin 128) (j : Fin 11) : EReal := Ideal.exp2 (Cert.Quant.rexp (amaxK s xb wg wu i j))

/-- The dequantised activation at row `i`, column `q`. -/
def hdK (i : Fin 128) (q : Fin 1408) : EReal := codeK s xb wg wu i q * scaleK s xb wg wu i ⟨q.val / 128, by omega⟩
end

/-- The column offset of trip `k`. -/
theorem word1 (k : Fin k0_t1_loop.trips) :
    BitVec.toNat (Scalar.indexCast (Scalar.muli (Scf.iv 0#32 1#32 k.val) 128#32)) = 128 * k.val := by
  have hk : k.val < 11 := lt_of_lt_of_le k.isLt k0_t1_abs.2.1
  generalize k.val = n at hk ⊢
  interval_cases n <;> decide

/-- A trip of the first loop is one of eleven. -/
theorem lt1 (k : Fin k0_t1_loop.trips) : k.val < 11 := lt_of_lt_of_le k.isLt k0_t1_abs.2.1

/-- The scale's place in its row at trip `k`. -/
theorem wordS (k : ℕ) (hk : k < 16) (a : ℕ) (ha : a < 512) :
    BitVec.toNat (Scalar.indexCast (Scalar.addi (BitVec.ofNat 32 a) (Scf.iv 0#32 1#32 k))) = a + k := by
  have h : Scf.iv 0#32 1#32 k = BitVec.ofNat 32 k := by interval_cases k <;> decide
  rw [h]
  show (BitVec.ofNat 32 a + BitVec.ofNat 32 k).toNat = _
  simp [BitVec.toNat_add, BitVec.toNat_ofNat]
  omega

/-- A tile read at an index. -/
theorem tile_read {sp : Space} {R C : ℕ} {e : EltTy} (v : View sig .tc sp ⟨2, ![R, C]⟩ e) (X : v.ty.Contents (Elt Ideal)) {p q : ℕ} (off : Fin 2 → ℕ)
    (inb : ∀ a, off a + (⟨2, ![p, q]⟩ : Shape).size a ≤ (⟨2, ![R, C]⟩ : Shape).size a) (a b : ℕ) (h0 : off 0 = a) (h1 : off 1 = b)
    (r : Fin p) (n : Fin q) (hr : a + r.val < R) (hn : b + n.val < C) :
    View.readAt (Elt Ideal) v (Rect.unit (s := ⟨2, ![R, C]⟩) off (⟨2, ![p, q]⟩ : Shape).size inb).toLoadRect X (ix2 r n)
      = v.read (Elt Ideal) X (ix2 ⟨a + r.val, hr⟩ ⟨b + n.val, hn⟩) := by
  subst h0 h1
  rw [View.readAt_eq_ld]
  refine congrArg (v.read (Elt Ideal) X) (funext fun d => ?_)
  match d with
  | ⟨0, _⟩ => exact Fin.ext (by show off 0 + 1 * r.val = off 0 + r.val; omega)
  | ⟨1, _⟩ => exact Fin.ext (by show off 1 + 1 * n.val = off 1 + n.val; omega)

/-- A scale read. -/
theorem scale_read {sp : Space} (v : View sig .tc sp S1x1x528 .f32) (X : v.ty.Contents (Elt Ideal)) (off : Fin 3 → ℕ)
    (inb : ∀ a, off a + S1x1x1.size a ≤ S1x1x528.size a) (h0 : off 0 = 0) (h1 : off 1 = 0) (b : Fin 528) (h2 : off 2 = b.val) (y : S1x1x1.Idx) :
    View.readAt (Elt Ideal) v (Rect.unit (s := S1x1x528) off S1x1x1.size inb).toLoadRect X y = v.read (Elt Ideal) X (ix3 0 0 b) := by
  rw [View.readAt_eq_ld]
  refine congrArg (v.read (Elt Ideal) X) (funext fun d => ?_)
  match d with
  | ⟨0, _⟩ => exact Fin.ext (by have : (y 0).val < 1 := (y 0).isLt; show off 0 + 1 * (y 0).val = 0; omega)
  | ⟨1, _⟩ => exact Fin.ext (by have : (y 1).val < 1 := (y 1).isLt; show off 1 + 1 * (y 1).val = 0; omega)
  | ⟨2, _⟩ => exact Fin.ext (by have : (y 2).val < 1 := (y 2).isLt; show off 2 + 1 * (y 2).val = b.val; omega)

section
variable {sp₂ sp₅ sp₆ sp₁₁ : Space} (v2 : View sig .tc sp₂ S1x1x528 .f32) (X2 : v2.ty.Contents (Elt Ideal))
  (v5 : View sig .tc sp₅ S2048x1408 .fp8e4m3) (X5 : v5.ty.Contents (Elt Ideal))
  (v11 : View sig .tc sp₁₁ S128x2048 .bf16) (X11 : v11.ty.Contents (Elt Ideal)) (k : Fin k0_t1_loop.trips)

/-- The weight tiles of trip `k`. -/
def tileW (d : Fin 16) : Vec Ideal S128x128 .fp8e4m3 :=
  View.readAt (Elt Ideal) v5 (Rect.unit (s := S2048x1408) ![128 * d.val, BitVec.toNat (Scalar.indexCast (Scalar.muli (Scf.iv 0#32 1#32 k.val) 128#32))] S128x128.size
    (fun a => by rw [word1 k]; have := lt1 k; match a with
      | ⟨0, _⟩ => show 128 * d.val + 128 ≤ 2048; omega
      | ⟨1, _⟩ => show 128 * k.val + 128 ≤ 1408; omega)).toLoadRect X5

/-- The scales of trip `k`: `c` is 0 for the gate and 11 for the up projection. -/
def scaleW (c : ℕ) (hc : c ≤ 11) (d : Fin 16) : Elt Ideal .f32 :=
  View.readAt (Elt Ideal) v2 (Rect.unit (s := S1x1x528) ![0, 0, BitVec.toNat (Scalar.indexCast (Scalar.addi (BitVec.ofNat 32 (22 * d.val + c)) (Scf.iv 0#32 1#32 k.val)))] S1x1x1.size
    (fun a => by
      have := lt1 k
      rw [wordS k.val (by omega) _ (by omega)]; match a with
      | ⟨0, _⟩ => show 0 + 1 ≤ 1; omega
      | ⟨1, _⟩ => show 0 + 1 ≤ 1; omega
      | ⟨2, _⟩ => show 22 * d.val + c + k.val + 1 ≤ 528; omega)).toLoadRect X2 (Shape.Idx.first (s := S1x1x1) (by decide))

/-- The row blocks of the dequantised input. -/
def tileX (e : Fin 8) : Vec Ideal S128x256 .bf16 :=
  View.readAt (Elt Ideal) v11 (Rect.unit (s := S128x2048) ![0, 256 * e.val] S128x256.size
    (fun a => by match a with
      | ⟨0, _⟩ => show 0 + 128 ≤ 128; omega
      | ⟨1, _⟩ => show 256 * e.val + 256 ≤ 2048; omega)).toLoadRect X11

end

section
variable (g u : Fin 16 → Vec Ideal S128x128 .fp8e4m3) (sg su : Fin 16 → Elt Ideal .f32) (x : Fin 8 → Vec Ideal S128x256 .bf16)

/-- The codes a trip stores, from its tiles, as the program's payloads cut them; -/
def codesP : FVec Ideal S128x128 .fp8e4m3 :=
  k0_pay3 (k0_pay32 (upCut g u sg su x) (k0_pay29 (g 14) (sg 14) (u 14) (su 14)) (k0_pay30 (g 15) (sg 15)) (k0_pay31 (u 15)) (su 15) (x 7)) (k0_pay40 (k0_pay33 (upCut g u sg su x) (k0_pay29 (g 14) (sg 14) (u 14) (su 14)) (k0_pay30 (g 15) (sg 15)) (k0_pay31 (u 15)) (su 15) (x 7)) (k0_pay34 (upCut g u sg su x) (k0_pay29 (g 14) (sg 14) (u 14) (su 14)) (k0_pay30 (g 15) (sg 15)) (k0_pay31 (u 15)) (su 15) (x 7)) (k0_pay35 (upCut g u sg su x) (k0_pay29 (g 14) (sg 14) (u 14) (su 14)) (k0_pay30 (g 15) (sg 15)) (k0_pay31 (u 15)) (su 15) (x 7)) (k0_pay36 (upCut g u sg su x) (k0_pay29 (g 14) (sg 14) (u 14) (su 14)) (k0_pay30 (g 15) (sg 15)) (k0_pay31 (u 15)) (su 15) (x 7)))

/-- the scales; -/
def scalesP : FVec Ideal S128x1 .f32 := k0_pay39 (k0_pay33 (upCut g u sg su x) (k0_pay29 (g 14) (sg 14) (u 14) (su 14)) (k0_pay30 (g 15) (sg 15)) (k0_pay31 (u 15)) (su 15) (x 7)) (k0_pay34 (upCut g u sg su x) (k0_pay29 (g 14) (sg 14) (u 14) (su 14)) (k0_pay30 (g 15) (sg 15)) (k0_pay31 (u 15)) (su 15) (x 7)) (k0_pay35 (upCut g u sg su x) (k0_pay29 (g 14) (sg 14) (u 14) (su 14)) (k0_pay30 (g 15) (sg 15)) (k0_pay31 (u 15)) (su 15) (x 7)) (k0_pay36 (upCut g u sg su x) (k0_pay29 (g 14) (sg 14) (u 14) (su 14)) (k0_pay30 (g 15) (sg 15)) (k0_pay31 (u 15)) (su 15) (x 7))

/-- and the dequantised codes. -/
def deqP : FVec Ideal S128x128 .bf16 :=
  k0_pay4 (k0_pay32 (upCut g u sg su x) (k0_pay29 (g 14) (sg 14) (u 14) (su 14)) (k0_pay30 (g 15) (sg 15)) (k0_pay31 (u 15)) (su 15) (x 7)) (k0_pay39 (k0_pay33 (upCut g u sg su x) (k0_pay29 (g 14) (sg 14) (u 14) (su 14)) (k0_pay30 (g 15) (sg 15)) (k0_pay31 (u 15)) (su 15) (x 7)) (k0_pay34 (upCut g u sg su x) (k0_pay29 (g 14) (sg 14) (u 14) (su 14)) (k0_pay30 (g 15) (sg 15)) (k0_pay31 (u 15)) (su 15) (x 7)) (k0_pay35 (upCut g u sg su x) (k0_pay29 (g 14) (sg 14) (u 14) (su 14)) (k0_pay30 (g 15) (sg 15)) (k0_pay31 (u 15)) (su 15) (x 7)) (k0_pay36 (upCut g u sg su x) (k0_pay29 (g 14) (sg 14) (u 14) (su 14)) (k0_pay30 (g 15) (sg 15)) (k0_pay31 (u 15)) (su 15) (x 7))) (k0_pay40 (k0_pay33 (upCut g u sg su x) (k0_pay29 (g 14) (sg 14) (u 14) (su 14)) (k0_pay30 (g 15) (sg 15)) (k0_pay31 (u 15)) (su 15) (x 7)) (k0_pay34 (upCut g u sg su x) (k0_pay29 (g 14) (sg 14) (u 14) (su 14)) (k0_pay30 (g 15) (sg 15)) (k0_pay31 (u 15)) (su 15) (x 7)) (k0_pay35 (upCut g u sg su x) (k0_pay29 (g 14) (sg 14) (u 14) (su 14)) (k0_pay30 (g 15) (sg 15)) (k0_pay31 (u 15)) (su 15) (x 7)) (k0_pay36 (upCut g u sg su x) (k0_pay29 (g 14) (sg 14) (u 14) (su 14)) (k0_pay30 (g 15) (sg 15)) (k0_pay31 (u 15)) (su 15) (x 7)))

variable (i n : Fin 128)

/-- The codes a trip computes at an index. -/
theorem codesP_at : codesP g u sg su x (ix2 i n)
    = codeOf (amax fun n => hOf (upSum g u sg su x) (ix2 i n)) (hOf (upSum g u sg su x) (ix2 i n)) :=
  code_at _ _ _ _ _ _ (upCut_eq g u sg su x) i n

/-- The scales a trip computes at a row. -/
theorem scalesP_at : scalesP g u sg su x (ix2 i 0)
    = Ideal.exp2 (Cert.Quant.rexp (amax fun n => hOf (upSum g u sg su x) (ix2 i n))) :=
  scale_at _ _ _ _ _ _ (upCut_eq g u sg su x) i

/-- The requantised hidden block a trip computes at an index. -/
theorem deqP_at : deqP g u sg su x (ix2 i n)
    = codeOf (amax fun n => hOf (upSum g u sg su x) (ix2 i n)) (hOf (upSum g u sg su x) (ix2 i n))
      * Ideal.exp2 (Cert.Quant.rexp (amax fun n => hOf (upSum g u sg su x) (ix2 i n))) :=
  deq_at _ _ _ _ _ _ (upCut_eq g u sg su x) i n
end

/-- The scale column of trip `k`. -/
theorem word0 (k : Fin k0_t1_loop.trips) : BitVec.toNat (Scalar.indexCast (Scf.iv 0#32 1#32 k.val)) = k.val := by
  have hk : k.val < 11 := lt_of_lt_of_le k.isLt k0_t1_abs.2.1
  generalize k.val = n at hk ⊢
  interval_cases n <;> decide

/-- The columns trip `k` stores, -/
def rectC (k : Fin k0_t1_loop.trips) : Rect S128x1408 := Rect.unit (s := S128x1408) ![0, BitVec.toNat (Scalar.indexCast (Scalar.muli (Scf.iv 0#32 1#32 k.val) 128#32))] S128x128.size
    (fun a => by rw [word1 k]; have := lt1 k; match a with
      | ⟨0, _⟩ => show 0 + 128 ≤ 128; omega
      | ⟨1, _⟩ => show 128 * k.val + 128 ≤ 1408; omega)

/-- and the scale column. -/
def rectS (k : Fin k0_t1_loop.trips) : Rect S128x11 := Rect.unit (s := S128x11) ![0, BitVec.toNat (Scalar.indexCast (Scf.iv 0#32 1#32 k.val))] S128x1.size
    (fun a => by rw [word0 k]; have := lt1 k; match a with
      | ⟨0, _⟩ => show 0 + 128 ≤ 128; omega
      | ⟨1, _⟩ => show k.val + 1 ≤ 11; omega)

section
variable {sp₂ sp₅ sp₆ sp₁₁ : Space} (v2 : View sig .tc sp₂ S1x1x528 .f32) (X2 : v2.ty.Contents (Elt Ideal))
  (v5 : View sig .tc sp₅ S2048x1408 .fp8e4m3) (X5 : v5.ty.Contents (Elt Ideal)) (v6 : View sig .tc sp₆ S2048x1408 .fp8e4m3) (X6 : v6.ty.Contents (Elt Ideal))
  (v11 : View sig .tc sp₁₁ S128x2048 .bf16) (X11 : v11.ty.Contents (Elt Ideal)) (k : Fin k0_t1_loop.trips)

/-- A tile of first weights at an index. -/
theorem tileW_at (d : Fin 16) (r n : Fin 128) : tileW v5 X5 k d (ix2 r n)
    = v5.read (Elt Ideal) X5 (ix2 ⟨128 * d.val + r.val, by omega⟩ ⟨128 * k.val + n.val, by have := lt1 k; omega⟩) := by
  unfold tileW
  exact tile_read v5 X5 _ _ (128 * d.val) (128 * k.val) rfl (word1 k) r n _ _

/-- A first weight scale. -/
theorem scaleW_at (c : ℕ) (hc : c ≤ 11) (d : Fin 16) : scaleW v2 X2 k c hc d
    = v2.read (Elt Ideal) X2 (ix3 0 0 ⟨22 * d.val + c + k.val, by have := lt1 k; omega⟩) := by
  unfold scaleW
  exact scale_read v2 X2 _ _ rfl rfl ⟨22 * d.val + c + k.val, by have := lt1 k; omega⟩
    (wordS k.val (by have := lt1 k; omega) _ (by omega)) _

/-- A tile of scaled tokens at an index. -/
theorem tileX_at (e : Fin 8) (i : Fin 128) (r : Fin 256) : tileX v11 X11 e (ix2 i r)
    = v11.read (Elt Ideal) X11 (ix2 i ⟨256 * e.val + r.val, by omega⟩) := by
  unfold tileX
  rw [tile_read v11 X11 _ _ 0 (256 * e.val) rfl rfl i r (by omega) (by omega)]
  simp only [Nat.zero_add]

/-- The activation trip `k` computes. -/
theorem hrow (i n : Fin 128) :
    hOf (upSum (tileW v5 X5 k) (tileW v6 X6 k) (scaleW v2 X2 k 0 (by omega)) (scaleW v2 X2 k 11 (by omega)) (tileX v11 X11)) (ix2 i n)
      = hK (v2.read (Elt Ideal) X2) (v11.read (Elt Ideal) X11) (v5.read (Elt Ideal) X5) (v6.read (Elt Ideal) X6) i
        ⟨128 * k.val + n.val, by have := lt1 k; omega⟩ := by
  have := lt1 k
  rw [hOf_at, upSum_gate (fun K => v11.read (Elt Ideal) X11 (ix2 i K))
      (gateW (v2.read (Elt Ideal) X2) (v5.read (Elt Ideal) X5) ⟨128 * k.val + n.val, by omega⟩) i n (tileX_at v11 X11 · i ·),
    upSum_up (fun K => v11.read (Elt Ideal) X11 (ix2 i K))
      (upW (v2.read (Elt Ideal) X2) (v6.read (Elt Ideal) X6) ⟨128 * k.val + n.val, by omega⟩) i n (tileX_at v11 X11 · i ·)]
  · rfl
  · intro d r
    rw [tileW_at, scaleW_at]
    unfold upW
    refine congrArg _ (congrArg _ (congrArg (ix3 0 0) (Fin.ext ?_)))
    show 22 * d.val + 11 + k.val = 22 * ((128 * d.val + r.val) / 128) + 11 + (128 * k.val + n.val) / 128
    omega
  · intro d r
    rw [tileW_at, scaleW_at]
    unfold gateW
    refine congrArg _ (congrArg _ (congrArg (ix3 0 0) (Fin.ext ?_)))
    show 22 * d.val + 0 + k.val = 22 * ((128 * d.val + r.val) / 128) + (128 * k.val + n.val) / 128
    omega
end

section
variable (s : S1x1x528.Idx → EReal) (xb : S128x2048.Idx → EReal) (wg wu : S2048x1408.Idx → EReal)

/-- The code of a column of the `j`-th 128; -/
theorem codeK_block (i : Fin 128) (j : Fin 11) (n : Fin 128) (hq : 128 * j.val + n.val < 1408) : codeK s xb wg wu i ⟨128 * j.val + n.val, hq⟩
    = codeOf (amaxK s xb wg wu i j) (hK s xb wg wu i ⟨128 * j.val + n.val, hq⟩) := by
  unfold codeK
  rw [show (⟨(⟨128 * j.val + n.val, hq⟩ : Fin 1408).val / 128, by omega⟩ : Fin 11) = j from Fin.ext (by show (128 * j.val + n.val) / 128 = j.val; omega)]

/-- and its dequantised value. -/
theorem hdK_block (i : Fin 128) (j : Fin 11) (n : Fin 128) (hq : 128 * j.val + n.val < 1408) : hdK s xb wg wu i ⟨128 * j.val + n.val, hq⟩
    = codeOf (amaxK s xb wg wu i j) (hK s xb wg wu i ⟨128 * j.val + n.val, hq⟩) * Ideal.exp2 (Cert.Quant.rexp (amaxK s xb wg wu i j)) := by
  unfold hdK scaleK
  rw [codeK_block, show (⟨(⟨128 * j.val + n.val, hq⟩ : Fin 1408).val / 128, by omega⟩ : Fin 11) = j from Fin.ext (by show (128 * j.val + n.val) / 128 = j.val; omega)]
end

/-- A place in the columns of trip `k`. -/
theorem rectC_emb (k : Fin k0_t1_loop.trips) (i n : Fin 128) :
    (rectC k).emb (ix2 i n) = ix2 i ⟨128 * k.val + n.val, by have := lt1 k; omega⟩ := by
  refine funext fun a => Fin.ext ?_
  match a with
  | ⟨0, _⟩ => show 0 + 1 * i.val = i.val; omega
  | ⟨1, _⟩ =>
    show BitVec.toNat (Scalar.indexCast (Scalar.muli (Scf.iv 0#32 1#32 k.val) 128#32)) + 1 * n.val = 128 * k.val + n.val
    rw [word1]; omega

/-- A place in the scale column of trip `k`. -/
theorem rectS_emb (k : Fin k0_t1_loop.trips) (i : Fin 128) : (rectS k).emb (ix2 i (0 : Fin 1)) = ix2 i ⟨k.val, lt1 k⟩ := by
  refine funext fun a => Fin.ext ?_
  match a with
  | ⟨0, _⟩ => show 0 + 1 * i.val = i.val; omega
  | ⟨1, _⟩ =>
    show BitVec.toNat (Scalar.indexCast (Scf.iv 0#32 1#32 k.val)) + 1 * 0 = k.val
    rw [word0]; omega

/-- A column lies in the block of 128 that its number names. -/
theorem mem_rectC (k : Fin k0_t1_loop.trips) (y : S128x1408.Idx) (h : (y 1).val / 128 = k.val) : y ∈ (rectC k).set := by
  unfold rectC
  rw [Rect.mem_set_unit]
  intro a
  match a with
  | ⟨0, _⟩ => exact ⟨Nat.zero_le _, (y 0).isLt⟩
  | ⟨1, _⟩ =>
    show BitVec.toNat (Scalar.indexCast (Scalar.muli (Scf.iv 0#32 1#32 k.val) 128#32)) ≤ (y 1).val
      ∧ (y 1).val < BitVec.toNat (Scalar.indexCast (Scalar.muli (Scf.iv 0#32 1#32 k.val) 128#32)) + 128
    rw [word1]; omega

/-- A scale lies in the column that its number names. -/
theorem mem_rectS (k : Fin k0_t1_loop.trips) (y : S128x11.Idx) (h : (y 1).val = k.val) : y ∈ (rectS k).set := by
  unfold rectS
  rw [Rect.mem_set_unit]
  intro a
  match a with
  | ⟨0, _⟩ => exact ⟨Nat.zero_le _, (y 0).isLt⟩
  | ⟨1, _⟩ =>
    show BitVec.toNat (Scalar.indexCast (Scf.iv 0#32 1#32 k.val)) ≤ (y 1).val
      ∧ (y 1).val < BitVec.toNat (Scalar.indexCast (Scf.iv 0#32 1#32 k.val)) + 1
    rw [word0]; omega

/-- An index of a two-axis shape from its coordinates. -/
theorem idx2 {p q : ℕ} (x : (⟨2, ![p, q]⟩ : Shape).Idx) : x = ix2 (x 0) (x 1) := by
  funext a
  match a with
  | ⟨0, _⟩ => rfl
  | ⟨1, _⟩ => rfl

/-- Trip `k` stores the codes of its 128 columns. -/
theorem trip_codes (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg5 : BufTy.Contents (Elt Ideal) arg5.view.ty) (X_arg6 : BufTy.Contents (Elt Ideal) arg6.view.ty) (X_arg11 : BufTy.Contents (Elt Ideal) arg11.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 k).1 = [⟨rectC k, codesP (tileW arg5.view X_arg5 k) (tileW arg6.view X_arg6 k) (scaleW arg2.view X_arg2 k 0 (by omega)) (scaleW arg2.view X_arg2 k 11 (by omega)) (tileX arg11.view X_arg11)⟩] := by
  unfold trip_k0_t1
  dsimp only
  sl_unfold_words
  refine congrArg (· :: []) (congrArg (Sigma.mk _) ?_)
  rfl

/-- Trip `k` stores the scales of its 128 columns. -/
theorem trip_scales (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg5 : BufTy.Contents (Elt Ideal) arg5.view.ty) (X_arg6 : BufTy.Contents (Elt Ideal) arg6.view.ty) (X_arg11 : BufTy.Contents (Elt Ideal) arg11.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 k).2.1 = [⟨rectS k, scalesP (tileW arg5.view X_arg5 k) (tileW arg6.view X_arg6 k) (scaleW arg2.view X_arg2 k 0 (by omega)) (scaleW arg2.view X_arg2 k 11 (by omega)) (tileX arg11.view X_arg11)⟩] := by
  unfold trip_k0_t1
  dsimp only
  sl_unfold_words
  refine congrArg (· :: []) (congrArg (Sigma.mk _) ?_)
  rfl

/-- Trip `k` stores the dequantised codes of its 128 columns. -/
theorem trip_deq (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg5 : BufTy.Contents (Elt Ideal) arg5.view.ty) (X_arg6 : BufTy.Contents (Elt Ideal) arg6.view.ty) (X_arg11 : BufTy.Contents (Elt Ideal) arg11.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 k).2.2.1 = [⟨rectC k, deqP (tileW arg5.view X_arg5 k) (tileW arg6.view X_arg6 k) (scaleW arg2.view X_arg2 k 0 (by omega)) (scaleW arg2.view X_arg2 k 11 (by omega)) (tileX arg11.view X_arg11)⟩] := by
  unfold trip_k0_t1
  dsimp only
  sl_unfold_words
  refine congrArg (· :: []) (congrArg (Sigma.mk _) ?_)
  rfl

/-- A trip's store of codes is a block of the codes. -/
theorem trip_codes_of (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg5 : BufTy.Contents (Elt Ideal) arg5.view.ty) (X_arg6 : BufTy.Contents (Elt Ideal) arg6.view.ty) (X_arg11 : BufTy.Contents (Elt Ideal) arg11.view.ty) (k : Fin k0_t1_loop.trips) :
    View.PiecesOf (Val := Elt Ideal) (fun y => codeK (arg2.view.read (Elt Ideal) X_arg2) (arg11.view.read (Elt Ideal) X_arg11) (arg5.view.read (Elt Ideal) X_arg5) (arg6.view.read (Elt Ideal) X_arg6) (y 0) (y 1)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 k).1 := by
  rw [trip_codes]
  refine ⟨fun x => ?_, trivial⟩
  obtain ⟨i, n, rfl⟩ : ∃ (i n : Fin 128), x = ix2 i n := ⟨x 0, x 1, idx2 x⟩
  refine (codesP_at _ _ _ _ _ i n).trans ?_
  simp only [hrow]
  rw [rectC_emb]
  exact (codeK_block _ _ _ _ i ⟨k.val, lt1 k⟩ n _).symm

/-- A trip's store of scales is a column of the scales. -/
theorem trip_scales_of (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg5 : BufTy.Contents (Elt Ideal) arg5.view.ty) (X_arg6 : BufTy.Contents (Elt Ideal) arg6.view.ty) (X_arg11 : BufTy.Contents (Elt Ideal) arg11.view.ty) (k : Fin k0_t1_loop.trips) :
    View.PiecesOf (Val := Elt Ideal) (fun y => scaleK (arg2.view.read (Elt Ideal) X_arg2) (arg11.view.read (Elt Ideal) X_arg11) (arg5.view.read (Elt Ideal) X_arg5) (arg6.view.read (Elt Ideal) X_arg6) (y 0) (y 1)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 k).2.1 := by
  rw [trip_scales]
  refine ⟨fun x => ?_, trivial⟩
  obtain ⟨i, rfl⟩ : ∃ (i : Fin 128), x = ix2 i (0 : Fin 1) := ⟨x 0, (idx2 x).trans (congrArg (ix2 (x 0)) (Subsingleton.elim (α := Fin 1) _ _))⟩
  refine (scalesP_at _ _ _ _ _ i).trans ?_
  simp only [hrow]
  rw [rectS_emb]
  rfl

/-- A trip's store of the requantised hidden block is a block of one function. -/
theorem trip_deq_of (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg5 : BufTy.Contents (Elt Ideal) arg5.view.ty) (X_arg6 : BufTy.Contents (Elt Ideal) arg6.view.ty) (X_arg11 : BufTy.Contents (Elt Ideal) arg11.view.ty) (k : Fin k0_t1_loop.trips) :
    View.PiecesOf (Val := Elt Ideal) (fun y => hdK (arg2.view.read (Elt Ideal) X_arg2) (arg11.view.read (Elt Ideal) X_arg11) (arg5.view.read (Elt Ideal) X_arg5) (arg6.view.read (Elt Ideal) X_arg6) (y 0) (y 1)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 k).2.2.1 := by
  rw [trip_deq]
  refine ⟨fun x => ?_, trivial⟩
  obtain ⟨i, n, rfl⟩ : ∃ (i n : Fin 128), x = ix2 i n := ⟨x 0, x 1, idx2 x⟩
  refine (deqP_at _ _ _ _ _ i n).trans ?_
  simp only [hrow]
  rw [rectC_emb]
  exact (hdK_block _ _ _ _ i ⟨k.val, lt1 k⟩ n _).symm

end Cert.KernelIdeal.Gen
end
-- ==== Proof.KDown.lean ====
/- What one trip of the second loop stores: two blocks of output columns, as a sum over the 1408 hidden columns. -/
module

public import proofs.«01_k».proof.Proof.KTrip
public import Idealize.ShloMosaic.Lib.Pipeline.ValueKit
public import Idealize.ShloMosaic.Lib.Pointwise
public import Idealize.ShloMosaic.Lib.PointwiseCore

@[expose] public section
set_option maxRecDepth 16384
noncomputable section
namespace Cert.KernelIdeal.Gen
open Cert.KernelIdeal Idealize.ShloMosaic Idealize.ShloMosaic.TcCoe Idealize.SL.Sem

/-! ## A trip of the second loop at an index -/

/-- A trip of the second loop is one of eight. -/
theorem lt2 (k : Fin k0_t2_loop.trips) : k.val < 8 := lt_of_lt_of_le k.isLt k0_t2_abs.2.1

/-- Column `q` of the dequantised second weight. -/
def downW (s : S1x1x528.Idx → EReal) (w2 : S1408x2048.Idx → EReal) (q : Fin 2048) (K : Fin 1408) : EReal :=
  w2 (ix2 K q) * s (ix3 0 0 ⟨352 + 16 * (K.val / 128) + q.val / 128, by omega⟩)

/-- The output at row `i`, column `q` of a block. -/
def outK (s : S1x1x528.Idx → EReal) (hd : S128x1408.Idx → EReal) (w2 : S1408x2048.Idx → EReal) (i : Fin 128) (q : Fin 2048) : EReal :=
  ∑ K, hd (ix2 i K) * downW s w2 q K

/-- The column offset of tile `c` of trip `k`; -/
theorem word2 (k : Fin k0_t2_loop.trips) (c : ℕ) (hc : c ≤ 1) :
    BitVec.toNat (Scalar.indexCast (Scalar.muli (Scalar.addi (Scalar.muli 2#32 (Scf.iv 0#32 1#32 k.val)) (BitVec.ofNat 32 c)) 128#32)) = 256 * k.val + 128 * c := by
  have hk := lt2 k
  generalize k.val = n at hk ⊢
  interval_cases c <;> interval_cases n <;> decide

/-- the column offset of trip `k`'s store; -/
theorem word2o (k : Fin k0_t2_loop.trips) :
    BitVec.toNat (Scalar.indexCast (Scalar.muli (Scalar.muli 2#32 (Scf.iv 0#32 1#32 k.val)) 128#32)) = 256 * k.val := by
  have hk := lt2 k
  generalize k.val = n at hk ⊢
  interval_cases n <;> decide

/-- and the place of a scale in its row. -/
theorem word2s (k : Fin k0_t2_loop.trips) (c : ℕ) (hc : c ≤ 1) (d : Fin 11) :
    BitVec.toNat (Scalar.indexCast (Scalar.addi (Scalar.addi (BitVec.ofNat 32 (352 + 16 * d.val)) (Scalar.muli 2#32 (Scf.iv 0#32 1#32 k.val))) (BitVec.ofNat 32 c)))
      = 352 + 16 * d.val + (2 * k.val + c) := by
  have hk := lt2 k
  have h : Scalar.muli 2#32 (Scf.iv 0#32 1#32 k.val) = BitVec.ofNat 32 (2 * k.val) := by
    generalize k.val = n at hk ⊢
    interval_cases n <;> decide
  rw [h]
  show (BitVec.ofNat 32 (352 + 16 * d.val) + BitVec.ofNat 32 (2 * k.val) + BitVec.ofNat 32 c).toNat = _
  simp [BitVec.toNat_add, BitVec.toNat_ofNat]
  omega

section
variable {sp₂ sp₇ sp₁₂ : Space} (v2 : View sig .tc sp₂ S1x1x528 .f32) (X2 : v2.ty.Contents (Elt Ideal))
  (v7 : View sig .tc sp₇ S1408x2048 .fp8e4m3) (X7 : v7.ty.Contents (Elt Ideal))
  (v12 : View sig .tc sp₁₂ S128x1408 .bf16) (X12 : v12.ty.Contents (Elt Ideal)) (k : Fin k0_t2_loop.trips)

/-- The weight tiles of trip `k`: `c` is 0 for its left columns, 1 for its right. -/
def tileD (c : ℕ) (hc : c ≤ 1) (d : Fin 11) : Vec Ideal S128x128 .fp8e4m3 :=
  View.readAt (Elt Ideal) v7 (Rect.unit (s := S1408x2048) ![128 * d.val, BitVec.toNat (Scalar.indexCast (Scalar.muli (Scalar.addi (Scalar.muli 2#32 (Scf.iv 0#32 1#32 k.val)) (BitVec.ofNat 32 c)) 128#32))] S128x128.size
    (fun a => by rw [word2 k c hc]; have := lt2 k; match a with
      | ⟨0, _⟩ => show 128 * d.val + 128 ≤ 1408; omega
      | ⟨1, _⟩ => show 256 * k.val + 128 * c + 128 ≤ 2048; omega)).toLoadRect X7

/-- The scales of trip `k`. -/
def scaleD (c : ℕ) (hc : c ≤ 1) (d : Fin 11) : Elt Ideal .f32 :=
  View.readAt (Elt Ideal) v2 (Rect.unit (s := S1x1x528) ![0, 0, BitVec.toNat (Scalar.indexCast (Scalar.addi (Scalar.addi (BitVec.ofNat 32 (352 + 16 * d.val)) (Scalar.muli 2#32 (Scf.iv 0#32 1#32 k.val))) (BitVec.ofNat 32 c)))] S1x1x1.size
    (fun a => by
      have := lt2 k
      rw [word2s k c hc]; match a with
      | ⟨0, _⟩ => show 0 + 1 ≤ 1; omega
      | ⟨1, _⟩ => show 0 + 1 ≤ 1; omega
      | ⟨2, _⟩ => show 352 + 16 * d.val + (2 * k.val + c) + 1 ≤ 528; omega)).toLoadRect X2 (Shape.Idx.first (s := S1x1x1) (by decide))

/-- The row blocks of the dequantised activation, -/
def tileH (e : Fin 5) : Vec Ideal S128x256 .bf16 :=
  View.readAt (Elt Ideal) v12 (Rect.unit (s := S128x1408) ![0, 256 * e.val] S128x256.size
    (fun a => by match a with
      | ⟨0, _⟩ => show 0 + 128 ≤ 128; omega
      | ⟨1, _⟩ => show 256 * e.val + 256 ≤ 1408; omega)).toLoadRect X12

/-- and the last one. -/
def tileH' : Vec Ideal S128x128 .bf16 :=
  View.readAt (Elt Ideal) v12 (Rect.unit (s := S128x1408) ![0, 1280] S128x128.size
    (fun a => by match a with
      | ⟨0, _⟩ => show 0 + 128 ≤ 128; omega
      | ⟨1, _⟩ => show 1280 + 128 ≤ 1408; omega)).toLoadRect X12

/-- The columns trip `k` stores. -/
def rectD : Rect S128x2048 := Rect.unit (s := S128x2048) ![0, BitVec.toNat (Scalar.indexCast (Scalar.muli (Scalar.muli 2#32 (Scf.iv 0#32 1#32 k.val)) 128#32))] S128x256.size
    (fun a => by rw [word2o k]; have := lt2 k; match a with
      | ⟨0, _⟩ => show 0 + 128 ≤ 128; omega
      | ⟨1, _⟩ => show 256 * k.val + 256 ≤ 2048; omega)

/-- What trip `k` stores there, as the program's payloads cut it. -/
def downP : FVec Ideal S128x256 .bf16 :=
  k0_pay5 (downCut (tileD v7 X7 k 0 (by omega)) (tileD v7 X7 k 1 (by omega)) (scaleD v2 X2 k 0 (by omega)) (scaleD v2 X2 k 1 (by omega)) (tileH v12 X12))
    (k0_pay57 (tileD v7 X7 k 0 (by omega) 10) (scaleD v2 X2 k 0 (by omega) 10)) (k0_pay58 (tileD v7 X7 k 1 (by omega) 10)) (scaleD v2 X2 k 1 (by omega) 10) (tileH' v12 X12)

/-- A tile of down weights at an index. -/
theorem tileD_at (c : ℕ) (hc : c ≤ 1) (d : Fin 11) (r n : Fin 128) : tileD v7 X7 k c hc d (ix2 r n)
    = v7.read (Elt Ideal) X7 (ix2 ⟨128 * d.val + r.val, by omega⟩ ⟨256 * k.val + 128 * c + n.val, by have := lt2 k; omega⟩) := by
  unfold tileD
  exact tile_read v7 X7 _ _ (128 * d.val) (256 * k.val + 128 * c) rfl (word2 k c hc) r n _ _

/-- A down scale. -/
theorem scaleD_at (c : ℕ) (hc : c ≤ 1) (d : Fin 11) : scaleD v2 X2 k c hc d
    = v2.read (Elt Ideal) X2 (ix3 0 0 ⟨352 + 16 * d.val + (2 * k.val + c), by have := lt2 k; omega⟩) := by
  unfold scaleD
  exact scale_read v2 X2 _ _ rfl rfl ⟨352 + 16 * d.val + (2 * k.val + c), by have := lt2 k; omega⟩ (word2s k c hc d) _

/-- A tile of two hidden blocks at an index. -/
theorem tileH_at (e : Fin 5) (i : Fin 128) (r : Fin 256) : tileH v12 X12 e (ix2 i r)
    = v12.read (Elt Ideal) X12 (ix2 i ⟨256 * e.val + r.val, by omega⟩) := by
  unfold tileH
  rw [tile_read v12 X12 _ _ 0 (256 * e.val) rfl rfl i r (by omega) (by omega)]
  simp only [Nat.zero_add]

/-- The last tile, of one hidden block, at an index. -/
theorem tileH'_at (i r : Fin 128) : tileH' v12 X12 (ix2 i r)
    = v12.read (Elt Ideal) X12 (ix2 i ⟨1280 + r.val, by omega⟩) := by
  unfold tileH'
  rw [tile_read v12 X12 _ _ 0 1280 rfl rfl i r (by omega) (by omega)]
  simp only [Nat.zero_add]

/-- The scaled tiles of trip `k` are a column of the dequantised weight. -/
theorem tile_col (c : ℕ) (hc : c ≤ 1) (n : Fin 128) (d : Fin 11) (r : Fin 128) :
    tileD v7 X7 k c hc d (ix2 r n) * scaleD v2 X2 k c hc d
      = downW (v2.read (Elt Ideal) X2) (v7.read (Elt Ideal) X7) ⟨256 * k.val + 128 * c + n.val, by have := lt2 k; omega⟩ ⟨128 * d.val + r.val, by omega⟩ := by
  rw [tileD_at, scaleD_at]
  unfold downW
  refine congrArg _ (congrArg _ (congrArg (ix3 0 0) (Fin.ext ?_)))
  show 352 + 16 * d.val + (2 * k.val + c) = 352 + 16 * ((128 * d.val + r.val) / 128) + (256 * k.val + 128 * c + n.val) / 128
  omega

/-- What trip `k` stores at a column. -/
theorem downP_at (i : Fin 128) (n : Fin 256) : downP v2 X2 v7 X7 v12 X12 k (ix2 i n)
    = outK (v2.read (Elt Ideal) X2) (v12.read (Elt Ideal) X12) (v7.read (Elt Ideal) X7) i ⟨256 * k.val + n.val, by have := lt2 k; omega⟩ := by
  have hk := lt2 k
  unfold downP outK
  by_cases h : n.val < 128
  · refine (down_left (fun K => v12.read (Elt Ideal) X12 (ix2 i K)) (downW (v2.read (Elt Ideal) X2) (v7.read (Elt Ideal) X7) ⟨256 * k.val + 128 * 0 + n.val, by omega⟩)
      i ⟨n.val, h⟩ (tileH_at v12 X12 · i ·) (tileH'_at v12 X12 i) (tile_col v2 X2 v7 X7 k 0 (by omega) ⟨n.val, h⟩)).trans rfl
  · obtain ⟨n', rfl⟩ : ∃ n' : Fin 128, n = ⟨128 + n'.val, Nat.add_lt_add_left n'.isLt 128⟩ := ⟨⟨n.val - 128, by omega⟩, Fin.ext (by show n.val = 128 + (n.val - 128); omega)⟩
    refine (down_right (fun K => v12.read (Elt Ideal) X12 (ix2 i K)) (downW (v2.read (Elt Ideal) X2) (v7.read (Elt Ideal) X7) ⟨256 * k.val + 128 * 1 + n'.val, by omega⟩)
      i n' (tileH_at v12 X12 · i ·) (tileH'_at v12 X12 i) (tile_col v2 X2 v7 X7 k 1 (by omega) n')).trans ?_
    refine Finset.sum_congr rfl fun K _ => congrArg _ (congrArg (downW _ _ · K) (Fin.ext ?_))
    show 256 * k.val + 128 * 1 + n'.val = 256 * k.val + (128 + n'.val)
    omega

/-- Where a trip's store puts an index. -/
theorem rectD_emb (i : Fin 128) (n : Fin 256) :
    (rectD k).emb (ix2 i n) = ix2 i ⟨256 * k.val + n.val, by have := lt2 k; omega⟩ := by
  refine funext fun a => Fin.ext ?_
  match a with
  | ⟨0, _⟩ => show 0 + 1 * i.val = i.val; omega
  | ⟨1, _⟩ =>
    show BitVec.toNat (Scalar.indexCast (Scalar.muli (Scalar.muli 2#32 (Scf.iv 0#32 1#32 k.val)) 128#32)) + 1 * n.val = 256 * k.val + n.val
    rw [word2o]; omega

/-- A column lies in the pair of blocks that its number names. -/
theorem mem_rectD (y : S128x2048.Idx) (h : (y 1).val / 256 = k.val) : y ∈ (rectD k).set := by
  unfold rectD
  rw [Rect.mem_set_unit]
  intro a
  match a with
  | ⟨0, _⟩ => exact ⟨Nat.zero_le _, (y 0).isLt⟩
  | ⟨1, _⟩ =>
    show BitVec.toNat (Scalar.indexCast (Scalar.muli (Scalar.muli 2#32 (Scf.iv 0#32 1#32 k.val)) 128#32)) ≤ (y 1).val
      ∧ (y 1).val < BitVec.toNat (Scalar.indexCast (Scalar.muli (Scalar.muli 2#32 (Scf.iv 0#32 1#32 k.val)) 128#32)) + 256
    rw [word2o]; omega
end

/-- Trip `k` stores the output of its 256 columns. -/
theorem trip_out (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg7 : BufTy.Contents (Elt Ideal) arg7.view.ty) (X_arg12 : BufTy.Contents (Elt Ideal) arg12.view.ty) (k : Fin k0_t2_loop.trips) :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg7 X_arg12 k).1 = [⟨rectD k, downP arg2.view X_arg2 arg7.view X_arg7 arg12.view X_arg12 k⟩] := by
  unfold trip_k0_t2
  dsimp only
  sl_unfold_words
  refine congrArg (· :: []) (congrArg (Sigma.mk _) ?_)
  rfl

/-- A trip's store is a block of the output function. -/
theorem trip_out_of (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg7 : BufTy.Contents (Elt Ideal) arg7.view.ty) (X_arg12 : BufTy.Contents (Elt Ideal) arg12.view.ty) (k : Fin k0_t2_loop.trips) :
    View.PiecesOf (Val := Elt Ideal) (fun y => outK (arg2.view.read (Elt Ideal) X_arg2) (arg12.view.read (Elt Ideal) X_arg12) (arg7.view.read (Elt Ideal) X_arg7) (y 0) (y 1))
      (trip_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg7 X_arg12 k).1 := by
  rw [trip_out]
  refine ⟨fun x => ?_, trivial⟩
  obtain ⟨i, n, rfl⟩ : ∃ (i : Fin 128) (n : Fin 256), x = ix2 i n := ⟨x 0, x 1, idx2 x⟩
  refine (downP_at _ _ _ _ _ _ _ i n).trans ?_
  rw [rectD_emb]
  rfl

end Cert.KernelIdeal.Gen
end
-- ==== Proof.KLoop.lean ====
/- What the two loops leave after their last trip: each buffer they store to is one function of its index. -/
module

public import proofs.«01_k».proof.Proof.KDown
public import Idealize.ShloMosaic.Lib.Pipeline.ValueKit
public import Idealize.ShloMosaic.Lib.Pointwise
public import Idealize.ShloMosaic.Lib.PointwiseCore

@[expose] public section
set_option maxRecDepth 16384
noncomputable section
namespace Cert.KernelIdeal.Gen
open Cert.KernelIdeal Idealize.ShloMosaic Idealize.ShloMosaic.TcCoe Idealize.SL.Sem

/-! ## What the loops leave

Every store of a trip is a block of one function of the buffer's index; so is every store of the trips so far, and together
they cover the columns so far. -/

/-- Stores that are blocks of one function leave that function where they reach. -/
theorem read_pieces {sp : Space} {S : Shape} {e : EltTy} (v : View sig .tc sp S e) (f : v.ty.Contents (Elt Ideal)) (G : S.Idx → Elt Ideal e)
    (l : List (View.Piece (Elt Ideal) S e)) (h : View.PiecesOf G l) (hc : ∀ y, ∃ p ∈ l, y ∈ p.1.set) : v.read (Elt Ideal) (v.writes (Elt Ideal) f l) = G := by
  funext y
  rw [View.read_writes_apply_eq_canon v f y l (hc y)]
  simpa using View.canon_append_of_piecesOf G [] l h y (hc y)

/-- One more trip: its store, a block of the same function, covers one more block of columns. -/
theorem pieces_step {s : Shape} {e : EltTy} (G : s.Idx → Elt Ideal e) (col : s.Idx → ℕ) (j : ℕ) (P L : List (View.Piece (Elt Ideal) s e)) (p : View.Piece (Elt Ideal) s e)
    (hP : P = p :: L) (hp : View.PiecesOf G [p]) (hm : ∀ y, col y = j → y ∈ p.1.set)
    (ih : View.PiecesOf G L ∧ ∀ y, col y < j → ∃ p ∈ L, y ∈ p.1.set) :
    View.PiecesOf G P ∧ ∀ y, col y < j + 1 → ∃ p ∈ P, y ∈ p.1.set := by
  subst hP
  refine ⟨⟨hp.1, ih.1⟩, fun y hy => ?_⟩
  by_cases h : col y = j
  · exact ⟨_, List.mem_cons_self, hm y h⟩
  · obtain ⟨q, hq, hy⟩ := ih.2 y (by omega)
    exact ⟨q, List.mem_cons_of_mem _ hq, hy⟩

/-- The code stores of the first loop so far. -/
theorem loop1_codes (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg5 : BufTy.Contents (Elt Ideal) arg5.view.ty) (X_arg6 : BufTy.Contents (Elt Ideal) arg6.view.ty) (X_arg11 : BufTy.Contents (Elt Ideal) arg11.view.ty) (j : ℕ) (hj : j ≤ 11) :
    View.PiecesOf (Val := Elt Ideal) (fun y => codeK (arg2.view.read (Elt Ideal) X_arg2) (arg11.view.read (Elt Ideal) X_arg11) (arg5.view.read (Elt Ideal) X_arg5) (arg6.view.read (Elt Ideal) X_arg6) (y 0) (y 1)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 j).1
      ∧ ∀ y : S128x1408.Idx, (y 1).val / 128 < j → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 j).1, y ∈ p.1.set := by
  induction j with
  | zero => exact ⟨trivial, fun y h => absurd h (Nat.not_lt_zero _)⟩
  | succ j ih =>
    have hk : j < k0_t1_loop.trips := Nat.lt_of_lt_of_eq (Nat.lt_of_succ_le hj) (by decide)
    have e := congrArg (fun t => t.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 ⟨j, hk⟩)
    have tc := trip_codes_of 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 ⟨j, hk⟩
    have tp := trip_codes 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 ⟨j, hk⟩
    rw [tp] at tc
    exact pieces_step _ (fun y => (y 1).val / 128) j _ _ _ (e.trans (congrArg (· ++ _) tp)) tc (fun y h => mem_rectC ⟨j, hk⟩ y h) (ih (Nat.le_of_succ_le hj))

/-- The scale stores of the first loop so far. -/
theorem loop1_scales (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg5 : BufTy.Contents (Elt Ideal) arg5.view.ty) (X_arg6 : BufTy.Contents (Elt Ideal) arg6.view.ty) (X_arg11 : BufTy.Contents (Elt Ideal) arg11.view.ty) (j : ℕ) (hj : j ≤ 11) :
    View.PiecesOf (Val := Elt Ideal) (fun y => scaleK (arg2.view.read (Elt Ideal) X_arg2) (arg11.view.read (Elt Ideal) X_arg11) (arg5.view.read (Elt Ideal) X_arg5) (arg6.view.read (Elt Ideal) X_arg6) (y 0) (y 1)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 j).2.1
      ∧ ∀ y : S128x11.Idx, (y 1).val < j → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 j).2.1, y ∈ p.1.set := by
  induction j with
  | zero => exact ⟨trivial, fun y h => absurd h (Nat.not_lt_zero _)⟩
  | succ j ih =>
    have hk : j < k0_t1_loop.trips := Nat.lt_of_lt_of_eq (Nat.lt_of_succ_le hj) (by decide)
    have e := congrArg (fun t => t.2.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 ⟨j, hk⟩)
    have tc := trip_scales_of 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 ⟨j, hk⟩
    have tp := trip_scales 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 ⟨j, hk⟩
    rw [tp] at tc
    exact pieces_step _ (fun y => (y 1).val) j _ _ _ (e.trans (congrArg (· ++ _) tp)) tc (fun y h => mem_rectS ⟨j, hk⟩ y h) (ih (Nat.le_of_succ_le hj))

/-- The dequantised stores of the first loop so far. -/
theorem loop1_deq (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg5 : BufTy.Contents (Elt Ideal) arg5.view.ty) (X_arg6 : BufTy.Contents (Elt Ideal) arg6.view.ty) (X_arg11 : BufTy.Contents (Elt Ideal) arg11.view.ty) (j : ℕ) (hj : j ≤ 11) :
    View.PiecesOf (Val := Elt Ideal) (fun y => hdK (arg2.view.read (Elt Ideal) X_arg2) (arg11.view.read (Elt Ideal) X_arg11) (arg5.view.read (Elt Ideal) X_arg5) (arg6.view.read (Elt Ideal) X_arg6) (y 0) (y 1)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 j).2.2
      ∧ ∀ y : S128x1408.Idx, (y 1).val / 128 < j → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 j).2.2, y ∈ p.1.set := by
  induction j with
  | zero => exact ⟨trivial, fun y h => absurd h (Nat.not_lt_zero _)⟩
  | succ j ih =>
    have hk : j < k0_t1_loop.trips := Nat.lt_of_lt_of_eq (Nat.lt_of_succ_le hj) (by decide)
    have e := congrArg (fun t => t.2.2) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 ⟨j, hk⟩)
    have tc := trip_deq_of 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 ⟨j, hk⟩
    have tp := trip_deq 𝒱 c bd i arg1 harg1 arg2 harg2 arg3 harg3 arg4 harg4 arg5 harg5 arg6 harg6 arg7 harg7 arg8 harg8 arg9 harg9 arg10 harg10 arg11 harg11 arg12 harg12 X_arg2 X_arg5 X_arg6 X_arg11 ⟨j, hk⟩
    rw [tp] at tc
    exact pieces_step _ (fun y => (y 1).val / 128) j _ _ _ (e.trans (congrArg (· ++ _) tp)) tc (fun y h => mem_rectC ⟨j, hk⟩ y h) (ih (Nat.le_of_succ_le hj))

/-- The output stores of the second loop so far. -/
theorem loop2_out (𝒱 : Variants) (c : Dev nD) (bd : Option 𝒱.V) (i : grid0.Coords) (arg1 : Memref sig .tc .smem S70 .i32) (harg1 : arg1.IsWhole) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (X_arg2 : BufTy.Contents (Elt Ideal) arg2.view.ty) (X_arg7 : BufTy.Contents (Elt Ideal) arg7.view.ty) (X_arg12 : BufTy.Contents (Elt Ideal) arg12.view.ty) (j : ℕ) (hj : j ≤ 8) :
    View.PiecesOf (Val := Elt Ideal) (fun y => outK (arg2.view.read (Elt Ideal) X_arg2) (arg12.view.read (Elt Ideal) X_arg12) (arg7.view.read (Elt Ideal) X_arg7) (y 0) (y 1)) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg7 X_arg12 j)
      ∧ ∀ y : S128x2048.Idx, (y 1).val / 256 < j → ∃ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg7 X_arg12 j), y ∈ p.1.set := by
  induction j with
  | zero => exact ⟨trivial, fun y h => absurd h (Nat.not_lt_zero _)⟩
  | succ j ih =>
    have hk : j < k0_t2_loop.trips := Nat.lt_of_lt_of_eq (Nat.lt_of_succ_le hj) (by decide)
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 X_arg2 X_arg7 X_arg12 ⟨j, hk⟩
    have tc := trip_out_of 𝒱 c bd i arg1 harg1 arg2 harg2 arg3 harg3 arg4 harg4 arg5 harg5 arg6 harg6 arg7 harg7 arg8 harg8 arg9 harg9 arg10 harg10 arg11 harg11 arg12 harg12 X_arg2 X_arg7 X_arg12 ⟨j, hk⟩
    have tp := trip_out 𝒱 c bd i arg1 harg1 arg2 harg2 arg3 harg3 arg4 harg4 arg5 harg5 arg6 harg6 arg7 harg7 arg8 harg8 arg9 harg9 arg10 harg10 arg11 harg11 arg12 harg12 X_arg2 X_arg7 X_arg12 ⟨j, hk⟩
    rw [tp] at tc
    exact pieces_step _ (fun y => (y 1).val / 256) j _ _ _ (e.trans (congrArg (· ++ _) tp)) tc (fun y h => mem_rectD ⟨j, hk⟩ y h) (ih (Nat.le_of_succ_le hj))

/-- The dequantised input. -/
def xbK (x : S128x2048.Idx → EReal) (xs : S128x16.Idx → EReal) (y : S128x2048.Idx) : EReal :=
  x y * xs (ix2 (y 0) ⟨(y 1).val / 128, by have : (y 1).val < 2048 := (y 1).isLt; omega⟩)

/-- A block of the dequantised input is an input block by its scale column. -/
theorem pay59_at (v0 : Vec Ideal S128x1 .f32) (v4 : Vec Ideal S128x128 .fp8e4m3) (i n : Fin 128) :
    k0_pay59 (F := Ideal) v0 v4 (ix2 i n) = v4 (ix2 i n) * v0 (ix2 i 0) := by
  pointwise [k0_pay59]

end Cert.KernelIdeal.Gen
end
-- ==== Proof.KBlock.lean ====
/- What the whole body leaves in its three output blocks, from the blocks of its inputs. -/
module

public import proofs.«01_k».proof.Proof.KLoop
public import proofs.«01_k».proof.Proof.Frm
public import Idealize.ShloMosaic.Lib.Pipeline.ValueKit
public import Idealize.ShloMosaic.Lib.Pointwise
public import Idealize.ShloMosaic.Lib.PointwiseCore

@[expose] public section
set_option maxRecDepth 16384
noncomputable section
namespace Cert.KernelIdeal.Gen
open Cert.KernelIdeal Idealize.ShloMosaic Idealize.ShloMosaic.TcCoe Idealize.SL.Sem

/-- The columns of the input block `d`. -/
abbrev rectB (d : ℕ) (hd : d < 16) : Rect S128x2048 :=
  Rect.unit (s := S128x2048) ![0, 128 * d] S128x128.size (fun a => by
    match a with
    | ⟨0, _⟩ => show 0 + 128 ≤ 128; omega
    | ⟨1, _⟩ => show 128 * d + 128 ≤ 2048; omega)

/-- The scale column of the input block `d`. -/
abbrev rectXs (d : ℕ) (hd : d < 16) : Rect S128x16 :=
  Rect.unit (s := S128x16) ![0, d] S128x1.size (fun a => by
    match a with
    | ⟨0, _⟩ => show 0 + 128 ≤ 128; omega
    | ⟨1, _⟩ => show d + 1 ≤ 16; omega)

/-- The store of the dequantised input block `d`. -/
abbrev xbPiece (arg3 : Memref sig .tc .vmem S128x2048 .fp8e4m3) (harg3 : arg3.IsWhole) (arg4 : Memref sig .tc .vmem S128x16 .f32) (harg4 : arg4.IsWhole) (x1 : Vec Ideal S128x2048 .fp8e4m3) (x2 : Vec Ideal S128x16 .f32) (d : ℕ) (hd : d < 16) : View.Piece (Elt Ideal) S128x2048 .bf16 :=
  ⟨rectB d hd, k0_pay59 (F := Ideal) (View.readAt (Elt Ideal) arg4.view (rectXs d hd).toLoadRect (harg4.unread x2))
    (View.readAt (Elt Ideal) arg3.view (rectB d hd).toLoadRect (harg3.unread x1))⟩

/-- The stores of the scaled tokens are blocks of one function. -/
theorem xb_pieces (c : Dev nD) (arg3 : Memref sig .tc .vmem S128x2048 .fp8e4m3) (harg3 : arg3.IsWhole) (arg4 : Memref sig .tc .vmem S128x16 .f32) (harg4 : arg4.IsWhole) (x1 : Vec Ideal S128x2048 .fp8e4m3) (x2 : Vec Ideal S128x16 .f32) : kernelRun0_A.sl.HS0_16 (F := Ideal) c arg3 harg3 arg4 harg4 x1 x2 = [xbPiece arg3 harg3 arg4 harg4 x1 x2 15 (by omega), xbPiece arg3 harg3 arg4 harg4 x1 x2 14 (by omega), xbPiece arg3 harg3 arg4 harg4 x1 x2 13 (by omega), xbPiece arg3 harg3 arg4 harg4 x1 x2 12 (by omega), xbPiece arg3 harg3 arg4 harg4 x1 x2 11 (by omega), xbPiece arg3 harg3 arg4 harg4 x1 x2 10 (by omega), xbPiece arg3 harg3 arg4 harg4 x1 x2 9 (by omega), xbPiece arg3 harg3 arg4 harg4 x1 x2 8 (by omega), xbPiece arg3 harg3 arg4 harg4 x1 x2 7 (by omega), xbPiece arg3 harg3 arg4 harg4 x1 x2 6 (by omega), xbPiece arg3 harg3 arg4 harg4 x1 x2 5 (by omega), xbPiece arg3 harg3 arg4 harg4 x1 x2 4 (by omega), xbPiece arg3 harg3 arg4 harg4 x1 x2 3 (by omega), xbPiece arg3 harg3 arg4 harg4 x1 x2 2 (by omega), xbPiece arg3 harg3 arg4 harg4 x1 x2 1 (by omega), xbPiece arg3 harg3 arg4 harg4 x1 x2 0 (by omega)] := by
  sl_unfold_words
  rfl

/-- One store of the scaled tokens is a block of that function. -/
theorem xbPiece_of (arg3 : Memref sig .tc .vmem S128x2048 .fp8e4m3) (harg3 : arg3.IsWhole) (arg4 : Memref sig .tc .vmem S128x16 .f32) (harg4 : arg4.IsWhole) (x1 : Vec Ideal S128x2048 .fp8e4m3) (x2 : Vec Ideal S128x16 .f32) (d : ℕ) (hd : d < 16) (x : (rectB d hd).shape.Idx) :
    (xbPiece arg3 harg3 arg4 harg4 x1 x2 d hd).2 x = xbK x1 x2 ((rectB d hd).emb x) := by
  have h0 : ((rectB d hd).emb x 0).val = (x 0).val := (Rect.idx_unit_val _ _ _ x 0).trans (Nat.zero_add _)
  have h1 : ((rectB d hd).emb x 1).val = 128 * d + (x 1).val := Rect.idx_unit_val _ _ _ x 1
  have hx : (x 1).val < 128 := (x 1).isLt
  refine (congrArg (k0_pay59 (F := Ideal) (View.readAt (Elt Ideal) arg4.view (rectXs d hd).toLoadRect (harg4.unread x2))
    (View.readAt (Elt Ideal) arg3.view (rectB d hd).toLoadRect (harg3.unread x1))) (idx2 x)).trans ?_
  refine (pay59_at _ _ (x 0) (x 1)).trans ?_
  unfold xbK
  rw [View.readAt_eq_ld, View.readAt_eq_ld, harg3.read_unread, harg4.read_unread]
  refine congrArg₂ _ (congrArg x1 ?_) (congrArg x2 ?_)
  · exact congrArg (rectB d hd).emb (idx2 x).symm
  · funext a
    refine Fin.ext ?_
    match a with
    | ⟨0, _⟩ => exact (Rect.idx_unit_val _ _ _ _ 0).trans ((Nat.zero_add _).trans h0.symm)
    | ⟨1, _⟩ =>
      refine (Rect.idx_unit_val _ _ _ _ 1).trans ?_
      show d + 0 = ((rectB d hd).emb x 1).val / 128
      rw [h1]; omega

/-- A column lies in the block of 128 that its number names. -/
theorem mem_rectB (d : ℕ) (hd : d < 16) (y : S128x2048.Idx) (h : (y 1).val / 128 = d) : y ∈ (rectB d hd).set := by
  refine (Rect.mem_set_unit ..).mpr fun a => ?_
  match a with
  | ⟨0, _⟩ => exact ⟨Nat.zero_le _, (y 0).isLt⟩
  | ⟨1, _⟩ =>
    show 128 * d ≤ (y 1).val ∧ (y 1).val < 128 * d + 128
    omega

/-- The scratch holds the dequantised input. -/
theorem xb_read (c : Dev nD) (arg3 : Memref sig .tc .vmem S128x2048 .fp8e4m3) (harg3 : arg3.IsWhole) (arg4 : Memref sig .tc .vmem S128x16 .f32) (harg4 : arg4.IsWhole) (x1 : Vec Ideal S128x2048 .fp8e4m3) (x2 : Vec Ideal S128x16 .f32) (v : Memref sig .tc .vmem S128x2048 .bf16) (f : v.view.ty.Contents (Elt Ideal)) :
    v.view.read (Elt Ideal) (v.view.writes (Elt Ideal) f (kernelRun0_A.sl.HS0_16 (F := Ideal) c arg3 harg3 arg4 harg4 x1 x2)) = xbK x1 x2 := by
  refine read_pieces _ _ _ _ ?_ fun y => ?_
  · rw [xb_pieces]
    exact ⟨xbPiece_of arg3 harg3 arg4 harg4 x1 x2 15 (by omega), xbPiece_of arg3 harg3 arg4 harg4 x1 x2 14 (by omega), xbPiece_of arg3 harg3 arg4 harg4 x1 x2 13 (by omega), xbPiece_of arg3 harg3 arg4 harg4 x1 x2 12 (by omega), xbPiece_of arg3 harg3 arg4 harg4 x1 x2 11 (by omega), xbPiece_of arg3 harg3 arg4 harg4 x1 x2 10 (by omega), xbPiece_of arg3 harg3 arg4 harg4 x1 x2 9 (by omega), xbPiece_of arg3 harg3 arg4 harg4 x1 x2 8 (by omega), xbPiece_of arg3 harg3 arg4 harg4 x1 x2 7 (by omega), xbPiece_of arg3 harg3 arg4 harg4 x1 x2 6 (by omega), xbPiece_of arg3 harg3 arg4 harg4 x1 x2 5 (by omega), xbPiece_of arg3 harg3 arg4 harg4 x1 x2 4 (by omega), xbPiece_of arg3 harg3 arg4 harg4 x1 x2 3 (by omega), xbPiece_of arg3 harg3 arg4 harg4 x1 x2 2 (by omega), xbPiece_of arg3 harg3 arg4 harg4 x1 x2 1 (by omega), xbPiece_of arg3 harg3 arg4 harg4 x1 x2 0 (by omega), trivial⟩
  · have hy : (y 1).val < 2048 := (y 1).isLt
    have key : ∀ (d : ℕ) (hd : d < 16), xbPiece arg3 harg3 arg4 harg4 x1 x2 d hd ∈ kernelRun0_A.sl.HS0_16 (F := Ideal) c arg3 harg3 arg4 harg4 x1 x2 := by
      rw [xb_pieces]
      intro d hd
      interval_cases d <;> simp only [List.mem_cons, true_or, or_true]
    exact ⟨xbPiece arg3 harg3 arg4 harg4 x1 x2 ((y 1).val / 128) (by omega), key _ _, mem_rectB _ (by omega) y rfl⟩

/-- Grid step: the codes. -/
theorem codes_val (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (x0 : Vec Ideal S1x1x528 .f32) (x1 : Vec Ideal S128x2048 .fp8e4m3) (x2 : Vec Ideal S128x16 .f32) (x3 : Vec Ideal S2048x1408 .fp8e4m3) (x4 : Vec Ideal S2048x1408 .fp8e4m3) (x5 : Vec Ideal S1408x2048 .fp8e4m3) (xt0 : TbBuf0 (F := Ideal) c tbM0_0) : out0_A_7 (F := Ideal) c i arg2 harg2 arg3 harg3 arg4 harg4 arg5 harg5 arg6 harg6 arg7 harg7 arg8 harg8 arg9 harg9 arg10 harg10 arg11 harg11 arg12 harg12 x0 x1 x2 x3 x4 x5 xt0 = fun y => codeK x0 (xbK x1 x2) x3 x4 (y 0) (y 1) := by
  unfold out0_A_7
  unfold kernelRun0_A
  dsimp only
  have h := loop1_codes Variants.none c none i tbM0_0 htbM0_0 arg2 harg2 arg3 harg3 arg4 harg4 arg5 harg5 arg6 harg6 arg7 harg7 arg8 harg8 arg9 harg9 arg10 harg10 arg11 harg11 arg12 harg12 (harg2.unread x0) (harg5.unread x3) (harg6.unread x4) (arg11.view.writes (Elt Ideal) arg11.view.junk (kernelRun0_A.sl.HS0_16 c arg3 harg3 arg4 harg4 x1 x2)) 11 le_rfl
  rw [xb_read, harg2.read_unread, harg5.read_unread, harg6.read_unread] at h
  exact read_pieces _ _ _ _ h.1 fun y => h.2 y (by have : (y 1).val < 1408 := (y 1).isLt; omega)

/-- Grid step: the scales. -/
theorem scales_val (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (x0 : Vec Ideal S1x1x528 .f32) (x1 : Vec Ideal S128x2048 .fp8e4m3) (x2 : Vec Ideal S128x16 .f32) (x3 : Vec Ideal S2048x1408 .fp8e4m3) (x4 : Vec Ideal S2048x1408 .fp8e4m3) (x5 : Vec Ideal S1408x2048 .fp8e4m3) (xt0 : TbBuf0 (F := Ideal) c tbM0_0) : out0_A_8 (F := Ideal) c i arg2 harg2 arg3 harg3 arg4 harg4 arg5 harg5 arg6 harg6 arg7 harg7 arg8 harg8 arg9 harg9 arg10 harg10 arg11 harg11 arg12 harg12 x0 x1 x2 x3 x4 x5 xt0 = fun y => scaleK x0 (xbK x1 x2) x3 x4 (y 0) (y 1) := by
  unfold out0_A_8
  unfold kernelRun0_A
  dsimp only
  have h := loop1_scales Variants.none c none i tbM0_0 htbM0_0 arg2 harg2 arg3 harg3 arg4 harg4 arg5 harg5 arg6 harg6 arg7 harg7 arg8 harg8 arg9 harg9 arg10 harg10 arg11 harg11 arg12 harg12 (harg2.unread x0) (harg5.unread x3) (harg6.unread x4) (arg11.view.writes (Elt Ideal) arg11.view.junk (kernelRun0_A.sl.HS0_16 c arg3 harg3 arg4 harg4 x1 x2)) 11 le_rfl
  rw [xb_read, harg2.read_unread, harg5.read_unread, harg6.read_unread] at h
  exact read_pieces _ _ _ _ h.1 fun y => h.2 y (y 1).isLt

/-- Grid step: the output rows. -/
theorem rows_val (c : Dev nD) (i : grid0.Coords) (arg2 : Memref sig .tc .smem S1x1x528 .f32) (harg2 : arg2.IsWhole) (arg3 : Memref sig .tc .vmem S128x2048 .fp8e4m3) (harg3 : arg3.IsWhole) (arg4 : Memref sig .tc .vmem S128x16 .f32) (harg4 : arg4.IsWhole) (arg5 : Memref sig .tc .vmem S2048x1408 .fp8e4m3) (harg5 : arg5.IsWhole) (arg6 : Memref sig .tc .vmem S2048x1408 .fp8e4m3) (harg6 : arg6.IsWhole) (arg7 : Memref sig .tc .vmem S1408x2048 .fp8e4m3) (harg7 : arg7.IsWhole) (arg8 : Memref sig .tc .vmem S128x2048 .bf16) (harg8 : arg8.IsWhole) (arg9 : Memref sig .tc .vmem S128x1408 .fp8e4m3) (harg9 : arg9.IsWhole) (arg10 : Memref sig .tc .vmem S128x11 .f32) (harg10 : arg10.IsWhole) (arg11 : Memref sig .tc .vmem S128x2048 .bf16) (harg11 : arg11.IsWhole) (arg12 : Memref sig .tc .vmem S128x1408 .bf16) (harg12 : arg12.IsWhole) (x0 : Vec Ideal S1x1x528 .f32) (x1 : Vec Ideal S128x2048 .fp8e4m3) (x2 : Vec Ideal S128x16 .f32) (x3 : Vec Ideal S2048x1408 .fp8e4m3) (x4 : Vec Ideal S2048x1408 .fp8e4m3) (x5 : Vec Ideal S1408x2048 .fp8e4m3) (xt0 : TbBuf0 (F := Ideal) c tbM0_0) : out0_A_6 (F := Ideal) c i arg2 harg2 arg3 harg3 arg4 harg4 arg5 harg5 arg6 harg6 arg7 harg7 arg8 harg8 arg9 harg9 arg10 harg10 arg11 harg11 arg12 harg12 x0 x1 x2 x3 x4 x5 xt0 = fun y => outK x0 (fun z => hdK x0 (xbK x1 x2) x3 x4 (z 0) (z 1)) x5 (y 0) (y 1) := by
  unfold out0_A_6
  unfold kernelRun0_A
  dsimp only
  have hd := loop1_deq Variants.none c none i tbM0_0 htbM0_0 arg2 harg2 arg3 harg3 arg4 harg4 arg5 harg5 arg6 harg6 arg7 harg7 arg8 harg8 arg9 harg9 arg10 harg10 arg11 harg11 arg12 harg12 (harg2.unread x0) (harg5.unread x3) (harg6.unread x4) (arg11.view.writes (Elt Ideal) arg11.view.junk (kernelRun0_A.sl.HS0_16 c arg3 harg3 arg4 harg4 x1 x2)) 11 le_rfl
  rw [xb_read, harg2.read_unread, harg5.read_unread, harg6.read_unread] at hd
  have hr := read_pieces arg12.view arg12.view.junk _ _ hd.1 fun y => hd.2 y (by have : (y 1).val < 1408 := (y 1).isLt; omega)
  have h := loop2_out Variants.none c none i tbM0_0 htbM0_0 arg2 harg2 arg3 harg3 arg4 harg4 arg5 harg5 arg6 harg6 arg7 harg7 arg8 harg8 arg9 harg9 arg10 harg10 arg11 harg11 arg12 harg12 (harg2.unread x0) (harg7.unread x5)
    (arg12.view.writes (Elt Ideal) arg12.view.junk (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 (harg2.unread x0) (harg5.unread x3) (harg6.unread x4) (arg11.view.writes (Elt Ideal) arg11.view.junk (kernelRun0_A.sl.HS0_16 c arg3 harg3 arg4 harg4 x1 x2)) 11).2.2) 8 le_rfl
  rw [hr, harg2.read_unread, harg7.read_unread] at h
  exact read_pieces _ _ _ _ h.1 fun y => h.2 y (by have : (y 1).val < 2048 := (y 1).isLt; omega)

end Cert.KernelIdeal.Gen
end
-- ==== Proof.Spec.lean ====
/- The three results as plain functions of the six arrays and of the expert of each row block: the dequantised tokens and
   weights, the gated hidden row, its power-of-two quantisation by blocks of 128, and the second product. -/
module

public import proofs.«01_k».proof.Proof.KTrip
public import Idealize.ShloMosaic.Lib.Pipeline.ValueKit
public import Idealize.ShloMosaic.Lib.Pointwise
public import Idealize.ShloMosaic.Lib.PointwiseCore

@[expose] public section
set_option maxRecDepth 16384
noncomputable section
namespace Cert.KernelIdeal.Gen
open Cert.KernelIdeal Idealize.ShloMosaic Idealize.ShloMosaic.TcCoe Idealize.SL.Sem

/-! ## The mathematics of the three results

`e` is the expert of each row block, `a0`…`a5` the six arrays. -/

/-- Row `i` of row block `r`. -/
abbrev rowAt (r : Fin 70) (i : Fin 128) : Fin 8960 := ⟨128 * r.val + i.val, by omega⟩

section spec
variable (a0 : S8960x2048.Idx → EReal) (a1 : S8960x16.Idx → EReal) (a2 : S2048x180224.Idx → EReal) (a3 : S16x1408.Idx → EReal)
  (a4 : S90112x2048.Idx → EReal) (a5 : S704x16.Idx → EReal) (e : Fin 70 → Fin 64)

/-- The dequantised input. -/
def xR (r : Fin 70) (i : Fin 128) (K : Fin 2048) : EReal := a0 (ix2 (rowAt r i) K) * a1 (ix2 (rowAt r i) ⟨K.val / 128, by omega⟩)

/-- The dequantised gate weight of an expert. -/
def gW (e : Fin 64) (q : Fin 1408) (K : Fin 2048) : EReal :=
  a2 (ix2 K ⟨1408 * e.val + q.val, by omega⟩) * a3 (ix2 ⟨K.val / 128, by omega⟩ ⟨11 * e.val + q.val / 128, by omega⟩)

/-- The dequantised up weight of an expert. -/
def uW (e : Fin 64) (q : Fin 1408) (K : Fin 2048) : EReal :=
  a2 (ix2 K ⟨1408 * (64 + e.val) + q.val, by omega⟩) * a3 (ix2 ⟨K.val / 128, by omega⟩ ⟨704 + 11 * e.val + q.val / 128, by omega⟩)

/-- The dequantised down weight of an expert. -/
def dW (e : Fin 64) (n : Fin 2048) (K : Fin 1408) : EReal :=
  a4 (ix2 ⟨1408 * e.val + K.val, by omega⟩ n) * a5 (ix2 ⟨11 * e.val + K.val / 128, by omega⟩ ⟨n.val / 128, by omega⟩)

/-- The hidden row before it is quantised. -/
def hR (r : Fin 70) (i : Fin 128) (q : Fin 1408) : EReal := hAt (xR a0 a1 r i) (gW a2 a3 (e r) q) (uW a2 a3 (e r) q)

/-- The largest magnitude of a block of 128 of a hidden row. -/
def aR (r : Fin 70) (i : Fin 128) (j : Fin 11) : EReal := amax fun n => hR a0 a1 a2 a3 e r i ⟨128 * j.val + n.val, by omega⟩

/-- The code. -/
def codeR (r : Fin 70) (i : Fin 128) (q : Fin 1408) : EReal :=
  codeOf (aR a0 a1 a2 a3 e r i ⟨q.val / 128, by omega⟩) (hR a0 a1 a2 a3 e r i q)

/-- The scale. -/
def scaleR (r : Fin 70) (i : Fin 128) (j : Fin 11) : EReal := Ideal.exp2 (Cert.Quant.rexp (aR a0 a1 a2 a3 e r i j))

/-- The output. -/
def outR (r : Fin 70) (i : Fin 128) (n : Fin 2048) : EReal :=
  ∑ K : Fin 1408, codeR a0 a1 a2 a3 e r i K * scaleR a0 a1 a2 a3 e r i ⟨K.val / 128, by omega⟩ * dW a4 a5 (e r) n K
end spec

end Cert.KernelIdeal.Gen
end
-- ==== Proof.KArr.lean ====
/- The kernel's three result arrays after the run: block `r` of each is what the body leaves from the weights of the expert
   that the routing table names for row block `r`; together the blocks fill the arrays, which are the functions of `Proof/Spec.lean`. -/
module

public import proofs.«01_k».proof.Proof.KBlock
public import proofs.«01_k».proof.Proof.Ok
public import proofs.«01_k».proof.Proof.Spec
public import Idealize.ShloMosaic.Lib.Pipeline.Covers
public import Idealize.ShloMosaic.Lib.Pipeline.ValueKit
public import Idealize.ShloMosaic.Lib.Pointwise
public import Idealize.ShloMosaic.Lib.PointwiseCore

@[expose] public section
set_option maxRecDepth 16384
noncomputable section
namespace Cert.KernelIdeal.Gen
open Cert.KernelIdeal Idealize.ShloMosaic Idealize.ShloMosaic.TcCoe Idealize.SL.Sem

section index
variable {F : FTy → Type} [FloatOps F] (m : (ℓ : Loc nD τ sig) → Buf (Elt F) ℓ) (hO : Ok m) (t : Fin (cfgM m hO).N)

/-- The windows over rows move with the grid point. -/
theorem map_rows : ∀ i : grid0.Coords, cc0_transform_1 i = ![(i 0).val, 0] := by decide +kernel

/-- Grid point `t` reads token block `t`. -/
theorem index1 : ((cfgM m hO).win 1).index t = ![(grid0.coords t 0).val, 0] := map_rows (grid0.coords t)

/-- Grid point `t` reads token scale block `t`. -/
theorem index2 : ((cfgM m hO).win 2).index t = ![(grid0.coords t 0).val, 0] := map_rows (grid0.coords t)

/-- Grid point `t` writes output block `t`. -/
theorem index6 : ((cfgM m hO).win 6).index t = ![(grid0.coords t 0).val, 0] := map_rows (grid0.coords t)

/-- Grid point `t` writes code block `t`. -/
theorem index7 : ((cfgM m hO).win 7).index t = ![(grid0.coords t 0).val, 0] := map_rows (grid0.coords t)

/-- Grid point `t` writes scale block `t`. -/
theorem index8 : ((cfgM m hO).win 8).index t = ![(grid0.coords t 0).val, 0] := map_rows (grid0.coords t)

/-- The weight scales are read at the prefetched table's word. -/
theorem index0 {e : Fin 70 → Fin 64} (he : Cert.Route.Sends (m ((0 : Dev nD), Proc.tc.devRef main_arg6)) e) :
    ((cfgM m hO).win 0).index t = ![(e (grid0.coords t 0)).val, 0, 0] := (maps m he (grid0.coords t)).1

/-- The gate weights are read at the prefetched table's word. -/
theorem index3 {e : Fin 70 → Fin 64} (he : Cert.Route.Sends (m ((0 : Dev nD), Proc.tc.devRef main_arg6)) e) :
    ((cfgM m hO).win 3).index t = ![0, (e (grid0.coords t 0)).val] := (maps m he (grid0.coords t)).2.1

/-- The up weights are read 64 blocks after the prefetched table's word. -/
theorem index4 {e : Fin 70 → Fin 64} (he : Cert.Route.Sends (m ((0 : Dev nD), Proc.tc.devRef main_arg6)) e) :
    ((cfgM m hO).win 4).index t = ![0, 64 + (e (grid0.coords t 0)).val] := (maps m he (grid0.coords t)).2.2.1

/-- The down weights are read at the prefetched table's word. -/
theorem index5 {e : Fin 70 → Fin 64} (he : Cert.Route.Sends (m ((0 : Dev nD), Proc.tc.devRef main_arg6)) e) :
    ((cfgM m hO).win 5).index t = ![(e (grid0.coords t 0)).val, 0] := (maps m he (grid0.coords t)).2.2.2

/-- The output blocks fill the output. -/
theorem cover6 : ((cfgM m hO).win 6).Covers := by
  refine Pipeline.Window.covers_of_indexMap_surj _ rfl (fun a => ?_) fun β => ?_
  · match a with
    | ⟨0, _⟩ => exact (by decide : 0 < 128)
    | ⟨1, _⟩ => exact (by decide : 0 < 2048)
  · have h : (β (0 : Fin 2)).val < ((cfgM m hO).win 6).nblk (0 : Fin 2) := (β (0 : Fin 2)).isLt
    have hn : ((cfgM m hO).win 6).nblk (0 : Fin 2) = 70 := by
      show (8960 + 128 - 1) / 128 = 70
      rfl
    let i : grid0.Coords := fun a => ⟨(β (0 : Fin 2)).val, by
      obtain rfl : a = 0 := Subsingleton.elim _ _
      exact lt_of_lt_of_eq h hn⟩
    have hi : ((cfgM m hO).win 6).indexMap i = ![(β (0 : Fin 2)).val, 0] := map_rows i
    refine ⟨i, fun a => ?_⟩
    rw [hi]
    match a with
    | ⟨0, _⟩ => rfl
    | ⟨1, _⟩ =>
      have h : (β (1 : Fin 2)).val < 1 := lt_of_lt_of_eq (β (1 : Fin 2)).isLt (by show (2048 + 2048 - 1) / 2048 = 1; rfl)
      show 0 = (β (1 : Fin 2)).val
      omega

/-- The code blocks fill the codes. -/
theorem cover7 : ((cfgM m hO).win 7).Covers := by
  refine Pipeline.Window.covers_of_indexMap_surj _ rfl (fun a => ?_) fun β => ?_
  · match a with
    | ⟨0, _⟩ => exact (by decide : 0 < 128)
    | ⟨1, _⟩ => exact (by decide : 0 < 1408)
  · have h : (β (0 : Fin 2)).val < ((cfgM m hO).win 7).nblk (0 : Fin 2) := (β (0 : Fin 2)).isLt
    have hn : ((cfgM m hO).win 7).nblk (0 : Fin 2) = 70 := by
      show (8960 + 128 - 1) / 128 = 70
      rfl
    let i : grid0.Coords := fun a => ⟨(β (0 : Fin 2)).val, by
      obtain rfl : a = 0 := Subsingleton.elim _ _
      exact lt_of_lt_of_eq h hn⟩
    have hi : ((cfgM m hO).win 7).indexMap i = ![(β (0 : Fin 2)).val, 0] := map_rows i
    refine ⟨i, fun a => ?_⟩
    rw [hi]
    match a with
    | ⟨0, _⟩ => rfl
    | ⟨1, _⟩ =>
      have h : (β (1 : Fin 2)).val < 1 := lt_of_lt_of_eq (β (1 : Fin 2)).isLt (by show (1408 + 1408 - 1) / 1408 = 1; rfl)
      show 0 = (β (1 : Fin 2)).val
      omega

/-- The scale blocks fill the scales. -/
theorem cover8 : ((cfgM m hO).win 8).Covers := by
  refine Pipeline.Window.covers_of_indexMap_surj _ rfl (fun a => ?_) fun β => ?_
  · match a with
    | ⟨0, _⟩ => exact (by decide : 0 < 128)
    | ⟨1, _⟩ => exact (by decide : 0 < 11)
  · have h : (β (0 : Fin 2)).val < ((cfgM m hO).win 8).nblk (0 : Fin 2) := (β (0 : Fin 2)).isLt
    have hn : ((cfgM m hO).win 8).nblk (0 : Fin 2) = 70 := by
      show (8960 + 128 - 1) / 128 = 70
      rfl
    let i : grid0.Coords := fun a => ⟨(β (0 : Fin 2)).val, by
      obtain rfl : a = 0 := Subsingleton.elim _ _
      exact lt_of_lt_of_eq h hn⟩
    have hi : ((cfgM m hO).win 8).indexMap i = ![(β (0 : Fin 2)).val, 0] := map_rows i
    refine ⟨i, fun a => ?_⟩
    rw [hi]
    match a with
    | ⟨0, _⟩ => rfl
    | ⟨1, _⟩ =>
      have h : (β (1 : Fin 2)).val < 1 := lt_of_lt_of_eq (β (1 : Fin 2)).isLt (by show (11 + 11 - 1) / 11 = 1; rfl)
      show 0 = (β (1 : Fin 2)).val
      omega
end index

section blocks
variable (m : (ℓ : Loc nD τ sig) → Buf (Elt Ideal) ℓ) (hO : Ok m) (c : Dev nD) (t : Fin (cfgM m hO).N)
  {e : Fin 70 → Fin 64} (he : Cert.Route.Sends (m ((0 : Dev nD), Proc.tc.devRef main_arg6)) e)

/-- The block of tokens at an index. -/
theorem block1 (i : Fin 128) (k : Fin 2048) : iblk m hO c 1 t (ix2 i k) = m ((c : Thread nD τ).loc main_arg0) (ix2 ⟨128 * (grid0.coords t 0).val + i.val, by have h1 : (grid0.coords t 0).val < 70 := (grid0.coords t 0).isLt; omega⟩ k) := by
  blk_simp [iblk]
  refine (congrFun (V_main_arg0 m c) _).trans (congrArg _ ?_)
  funext a
  refine Fin.ext ?_
  have hx := index1 m hO t
  match a with
  | ⟨0, _⟩ => blk_simp; rw [hx]; show (grid0.coords t 0).val * 128 + i.val = 128 * (grid0.coords t 0).val + i.val; omega
  | ⟨1, _⟩ => blk_simp; rw [hx]; show 0 * 2048 + k.val = k.val; omega

/-- The block of token scales at an index. -/
theorem block2 (i : Fin 128) (k : Fin 16) : iblk m hO c 2 t (ix2 i k) = m ((c : Thread nD τ).loc main_arg1) (ix2 ⟨128 * (grid0.coords t 0).val + i.val, by have h1 : (grid0.coords t 0).val < 70 := (grid0.coords t 0).isLt; omega⟩ k) := by
  blk_simp [iblk]
  refine (congrFun (V_main_arg1 m c) _).trans (congrArg _ ?_)
  funext a
  refine Fin.ext ?_
  have hx := index2 m hO t
  match a with
  | ⟨0, _⟩ => blk_simp; rw [hx]; show (grid0.coords t 0).val * 128 + i.val = 128 * (grid0.coords t 0).val + i.val; omega
  | ⟨1, _⟩ => blk_simp; rw [hx]; show 0 * 16 + k.val = k.val; omega

/-- The block of gate weights at an index. -/
theorem block3 (he : Cert.Route.Sends (m ((0 : Dev nD), Proc.tc.devRef main_arg6)) e) (i : Fin 2048) (k : Fin 1408) : iblk m hO c 3 t (ix2 i k) = m ((c : Thread nD τ).loc main_arg2) (ix2 i ⟨1408 * (e (grid0.coords t 0)).val + k.val, by omega⟩) := by
  blk_simp [iblk]
  refine (congrFun (V_main_arg2 m c) _).trans (congrArg _ ?_)
  funext a
  refine Fin.ext ?_
  have hx := index3 m hO t he
  match a with
  | ⟨0, _⟩ => blk_simp; rw [hx]; show 0 * 2048 + i.val = i.val; omega
  | ⟨1, _⟩ => blk_simp; rw [hx]; show (e (grid0.coords t 0)).val * 1408 + k.val = 1408 * (e (grid0.coords t 0)).val + k.val; omega

/-- The block of up weights at an index. -/
theorem block4 (he : Cert.Route.Sends (m ((0 : Dev nD), Proc.tc.devRef main_arg6)) e) (i : Fin 2048) (k : Fin 1408) : iblk m hO c 4 t (ix2 i k) = m ((c : Thread nD τ).loc main_arg2) (ix2 i ⟨1408 * (64 + (e (grid0.coords t 0)).val) + k.val, by omega⟩) := by
  blk_simp [iblk]
  refine (congrFun (V_main_arg2 m c) _).trans (congrArg _ ?_)
  funext a
  refine Fin.ext ?_
  have hx := index4 m hO t he
  match a with
  | ⟨0, _⟩ => blk_simp; rw [hx]; show 0 * 2048 + i.val = i.val; omega
  | ⟨1, _⟩ => blk_simp; rw [hx]; show (64 + (e (grid0.coords t 0)).val) * 1408 + k.val = 1408 * (64 + (e (grid0.coords t 0)).val) + k.val; omega

/-- The block of down weights at an index. -/
theorem block5 (he : Cert.Route.Sends (m ((0 : Dev nD), Proc.tc.devRef main_arg6)) e) (i : Fin 1408) (k : Fin 2048) : iblk m hO c 5 t (ix2 i k) = m ((c : Thread nD τ).loc main_arg4) (ix2 ⟨1408 * (e (grid0.coords t 0)).val + i.val, by omega⟩ k) := by
  blk_simp [iblk]
  refine (congrFun (V_main_arg4 m c) _).trans (congrArg _ ?_)
  funext a
  refine Fin.ext ?_
  have hx := index5 m hO t he
  match a with
  | ⟨0, _⟩ => blk_simp; rw [hx]; show (e (grid0.coords t 0)).val * 1408 + i.val = 1408 * (e (grid0.coords t 0)).val + i.val; omega
  | ⟨1, _⟩ => blk_simp; rw [hx]; show 0 * 2048 + k.val = k.val; omega

/-- The block of weight scales at an index. -/
theorem block0 (he : Cert.Route.Sends (m ((0 : Dev nD), Proc.tc.devRef main_arg6)) e) (q : Fin 528) : iblk m hO c 0 t (ix3 0 0 q) = V m c main_v8 (ix3 (e (grid0.coords t 0)) 0 q) := by
  blk_simp [iblk]
  refine congrArg (V m c main_v8) ?_
  funext a
  refine Fin.ext ?_
  have hx := index0 m hO t he
  match a with
  | ⟨0, _⟩ => blk_simp; rw [hx]; exact Nat.add_zero _
  | ⟨1, _⟩ => blk_simp; rw [hx]; rfl
  | ⟨2, _⟩ => blk_simp; rw [hx]; show 0 * 528 + q.val = q.val; omega

/-- The scale row of an expert: the scales of its gate and up weights, then of its down weight. -/
theorem scale_row (r : Fin 64) (q : Fin 528) : V m c main_v8 (ix3 r 0 q) =
    if h : q.val < 352 then m ((c : Thread nD τ).loc main_arg3) (ix2 ⟨q.val / 22, by omega⟩ ⟨q.val / 11 % 2 * 704 + r.val * 11 + q.val % 11, by omega⟩)
    else m ((c : Thread nD τ).loc main_arg5) (ix2 ⟨r.val * 11 + (q.val - 352) / 16, by omega⟩ ⟨(q.val - 352) % 16, by omega⟩) := by
  unfold V
  simp only [hostOps0, hostOps0_1, hostOps0_2, List.flatten_cons, List.flatten_nil, List.append_nil, List.cons_append, List.nil_append]
  after_results_simp
  after_results_loop
  pointwise

/-- The token codes. -/
abbrev b0 := m ((c : Thread nD τ).loc main_arg0)
/-- The token scales. -/
abbrev b1 := m ((c : Thread nD τ).loc main_arg1)
/-- The first weights' codes. -/
abbrev b2 := m ((c : Thread nD τ).loc main_arg2)
/-- The first weights' scales. -/
abbrev b3 := m ((c : Thread nD τ).loc main_arg3)
/-- The second weights' codes. -/
abbrev b4 := m ((c : Thread nD τ).loc main_arg4)
/-- The second weights' scales. -/
abbrev b5 := m ((c : Thread nD τ).loc main_arg5)

/-- The scaled tokens of a block are the dequantised tokens. -/
theorem x_block (i : Fin 128) (K : Fin 2048) : xbK (iblk m hO c 1 t) (iblk m hO c 2 t) (ix2 i K) = xR (b0 m c) (b1 m c) (grid0.coords t 0) i K := by
  unfold xbK xR
  exact congrArg₂ (fun a b : EReal => a * b) (block1 m hO c t i K) (block2 m hO c t i _)

include he in
/-- The scaled gate weights of a block are the expert's dequantised gate weights. -/
theorem gate_block (q : Fin 1408) (K : Fin 2048) : gateW (iblk m hO c 0 t) (iblk m hO c 3 t) q K = gW (b2 m c) (b3 m c) (e (grid0.coords t 0)) q K := by
  unfold gateW gW
  refine congrArg₂ (fun a b : EReal => a * b) (block3 m hO c t he K q) ((block0 m hO c t he _).trans ((scale_row m c _ _).trans ?_))
  have h : 22 * (K.val / 128) + q.val / 128 < 352 := by omega
  rw [dif_pos h]
  exact congrArg _ (congrArg₂ ix2 (Fin.ext (by dsimp only; omega)) (Fin.ext (by dsimp only; omega)))

include he in
/-- The scaled up weights of a block are the expert's dequantised up weights. -/
theorem up_block (q : Fin 1408) (K : Fin 2048) : upW (iblk m hO c 0 t) (iblk m hO c 4 t) q K = uW (b2 m c) (b3 m c) (e (grid0.coords t 0)) q K := by
  unfold upW uW
  refine congrArg₂ (fun a b : EReal => a * b) (block4 m hO c t he K q) ((block0 m hO c t he _).trans ((scale_row m c _ _).trans ?_))
  have h : 22 * (K.val / 128) + 11 + q.val / 128 < 352 := by omega
  rw [dif_pos h]
  exact congrArg _ (congrArg₂ ix2 (Fin.ext (by dsimp only; omega)) (Fin.ext (by dsimp only; omega)))

include he in
/-- The scaled down weights of a block are the expert's dequantised down weights. -/
theorem down_block (n : Fin 2048) (K : Fin 1408) : downW (iblk m hO c 0 t) (iblk m hO c 5 t) n K = dW (b4 m c) (b5 m c) (e (grid0.coords t 0)) n K := by
  unfold downW dW
  refine congrArg₂ (fun a b : EReal => a * b) (block5 m hO c t he K n) ((block0 m hO c t he _).trans ((scale_row m c _ _).trans ?_))
  have h : ¬ 352 + 16 * (K.val / 128) + n.val / 128 < 352 := by omega
  rw [dif_neg h]
  exact congrArg _ (congrArg₂ ix2 (Fin.ext (by dsimp only; omega)) (Fin.ext (by dsimp only; omega)))

include he in
/-- The hidden row of a block is the hidden row of the results. -/
theorem h_block (i : Fin 128) (q : Fin 1408) : hK (iblk m hO c 0 t) (xbK (iblk m hO c 1 t) (iblk m hO c 2 t)) (iblk m hO c 3 t) (iblk m hO c 4 t) i q
    = hR (b0 m c) (b1 m c) (b2 m c) (b3 m c) e (grid0.coords t 0) i q := by
  unfold hK hR
  rw [show (fun K => xbK (iblk m hO c 1 t) (iblk m hO c 2 t) (ix2 i K)) = _ from funext (x_block m hO c t i),
    show gateW (iblk m hO c 0 t) (iblk m hO c 3 t) q = _ from funext (gate_block m hO c t he q),
    show upW (iblk m hO c 0 t) (iblk m hO c 4 t) q = _ from funext (up_block m hO c t he q)]

include he in
/-- The largest magnitude of a block of a hidden row. -/
theorem amax_block (i : Fin 128) (j : Fin 11) : amaxK (iblk m hO c 0 t) (xbK (iblk m hO c 1 t) (iblk m hO c 2 t)) (iblk m hO c 3 t) (iblk m hO c 4 t) i j
    = aR (b0 m c) (b1 m c) (b2 m c) (b3 m c) e (grid0.coords t 0) i j := by
  unfold amaxK aR
  exact congrArg amax (funext fun n => h_block m hO c t he i _)

include he in
/-- The codes of a block. -/
theorem code_block (i : Fin 128) (q : Fin 1408) : codeK (iblk m hO c 0 t) (xbK (iblk m hO c 1 t) (iblk m hO c 2 t)) (iblk m hO c 3 t) (iblk m hO c 4 t) i q
    = codeR (b0 m c) (b1 m c) (b2 m c) (b3 m c) e (grid0.coords t 0) i q := by
  unfold codeK codeR
  rw [amax_block m hO c t he, h_block m hO c t he]

include he in
/-- The scales of a block. -/
theorem scale_block (i : Fin 128) (j : Fin 11) : scaleK (iblk m hO c 0 t) (xbK (iblk m hO c 1 t) (iblk m hO c 2 t)) (iblk m hO c 3 t) (iblk m hO c 4 t) i j
    = scaleR (b0 m c) (b1 m c) (b2 m c) (b3 m c) e (grid0.coords t 0) i j := by
  unfold scaleK scaleR
  rw [amax_block m hO c t he]

include he in
/-- The output of a block. -/
theorem out_block (i : Fin 128) (n : Fin 2048) : outK (iblk m hO c 0 t) (fun z => hdK (iblk m hO c 0 t) (xbK (iblk m hO c 1 t) (iblk m hO c 2 t)) (iblk m hO c 3 t) (iblk m hO c 4 t) (z 0) (z 1)) (iblk m hO c 5 t) i n
    = outR (b0 m c) (b1 m c) (b2 m c) (b3 m c) (b4 m c) (b5 m c) e (grid0.coords t 0) i n := by
  unfold outK outR
  refine Finset.sum_congr rfl fun K _ => ?_
  refine congrArg₂ (fun a b : EReal => a * b) ?_ (down_block m hO c t he n K)
  show hdK _ _ _ _ i K = _
  unfold hdK
  rw [code_block m hO c t he, scale_block m hO c t he]

include he in
/-- The array of result 2, the codes after the run. -/
theorem array7 : (dats m hO 0 c).arrAt 7 (cfgM m hO).N = fun y : S8960x1408.Idx =>
    codeR (b0 m c) (b1 m c) (b2 m c) (b3 m c) e ⟨(y 0).val / 128, by have h : (y 0).val < 8960 := (y 0).isLt; omega⟩ ⟨(y 0).val % 128, by omega⟩ (y 1) := by
  refine (dats m hO 0 c).arrAt_eq_of_covers 7 _ (cover7 m hO) fun t hf y => ?_
  refine Eq.trans (b := (dats m hO 0 c).after 7 t y) rfl ?_
  rw [after0_7]
  unfold outsAt0
  dsimp only
  have hy : (y (0 : Fin 2)).val < 128 := (y (0 : Fin 2)).isLt
  have hr : (grid0.coords t 0).val < 70 := (grid0.coords t 0).isLt
  have hx := index7 m hO t
  have h0 : ((((cfgM m hO).win 7).blk t).view.emb y (0 : Fin 2)).val = 128 * (grid0.coords t 0).val + (y (0 : Fin 2)).val := by
    blk_simp; rw [hx]; show (grid0.coords t 0).val * 128 + _ = _; omega
  have h1 : ((((cfgM m hO).win 7).blk t).view.emb y (1 : Fin 2)).val = (y (1 : Fin 2)).val := by
    blk_simp; rw [hx]; show 0 * 1408 + _ = _; omega
  refine (congrFun (codes_val _ _ _ _ _ _ _ _ _ _ _ _ _ _ _ _ _ _ _ _ _ _ _ _ _ _ _ _ _ _ _) y).trans ?_
  refine (code_block m hO c t he (y (0 : Fin 2)) (y (1 : Fin 2))).trans ?_
  have e0 : (⟨((((cfgM m hO).win 7).blk t).view.emb y (0 : Fin 2)).val / 128, by omega⟩ : Fin 70) = grid0.coords t 0 := Fin.ext (by show _ / 128 = _; rw [h0]; omega)
  have e1 : (⟨((((cfgM m hO).win 7).blk t).view.emb y (0 : Fin 2)).val % 128, by omega⟩ : Fin 128) = y (0 : Fin 2) := Fin.ext (by show _ % 128 = _; rw [h0]; omega)
  have e2 : (((cfgM m hO).win 7).blk t).view.emb y (1 : Fin 2) = y (1 : Fin 2) := Fin.ext h1
  exact (congr (congr (congrArg (codeR (b0 m c) (b1 m c) (b2 m c) (b3 m c) e) e0) e1) e2).symm

include he in
/-- The array of result 3, the scales after the run. -/
theorem array8 : (dats m hO 0 c).arrAt 8 (cfgM m hO).N = fun y : S8960x11.Idx =>
    scaleR (b0 m c) (b1 m c) (b2 m c) (b3 m c) e ⟨(y 0).val / 128, by have h : (y 0).val < 8960 := (y 0).isLt; omega⟩ ⟨(y 0).val % 128, by omega⟩ (y 1) := by
  refine (dats m hO 0 c).arrAt_eq_of_covers 8 _ (cover8 m hO) fun t hf y => ?_
  refine Eq.trans (b := (dats m hO 0 c).after 8 t y) rfl ?_
  rw [after0_8]
  unfold outsAt0
  dsimp only
  have hy : (y (0 : Fin 2)).val < 128 := (y (0 : Fin 2)).isLt
  have hr : (grid0.coords t 0).val < 70 := (grid0.coords t 0).isLt
  have hx := index8 m hO t
  have h0 : ((((cfgM m hO).win 8).blk t).view.emb y (0 : Fin 2)).val = 128 * (grid0.coords t 0).val + (y (0 : Fin 2)).val := by
    blk_simp; rw [hx]; show (grid0.coords t 0).val * 128 + _ = _; omega
  have h1 : ((((cfgM m hO).win 8).blk t).view.emb y (1 : Fin 2)).val = (y (1 : Fin 2)).val := by
    blk_simp; rw [hx]; show 0 * 11 + _ = _; omega
  refine (congrFun (scales_val _ _ _ _ _ _ _ _ _ _ _ _ _ _ _ _ _ _ _ _ _ _ _ _ _ _ _ _ _ _ _) y).trans ?_
  refine (scale_block m hO c t he (y (0 : Fin 2)) (y (1 : Fin 2))).trans ?_
  have e0 : (⟨((((cfgM m hO).win 8).blk t).view.emb y (0 : Fin 2)).val / 128, by omega⟩ : Fin 70) = grid0.coords t 0 := Fin.ext (by show _ / 128 = _; rw [h0]; omega)
  have e1 : (⟨((((cfgM m hO).win 8).blk t).view.emb y (0 : Fin 2)).val % 128, by omega⟩ : Fin 128) = y (0 : Fin 2) := Fin.ext (by show _ % 128 = _; rw [h0]; omega)
  have e2 : (((cfgM m hO).win 8).blk t).view.emb y (1 : Fin 2) = y (1 : Fin 2) := Fin.ext h1
  exact (congr (congr (congrArg (scaleR (b0 m c) (b1 m c) (b2 m c) (b3 m c) e) e0) e1) e2).symm

include he in
/-- The array of result 1, the rows after the run. -/
theorem array6 : (dats m hO 0 c).arrAt 6 (cfgM m hO).N = fun y : S8960x2048.Idx =>
    outR (b0 m c) (b1 m c) (b2 m c) (b3 m c) (b4 m c) (b5 m c) e ⟨(y 0).val / 128, by have h : (y 0).val < 8960 := (y 0).isLt; omega⟩ ⟨(y 0).val % 128, by omega⟩ (y 1) := by
  refine (dats m hO 0 c).arrAt_eq_of_covers 6 _ (cover6 m hO) fun t hf y => ?_
  refine Eq.trans (b := (dats m hO 0 c).after 6 t y) rfl ?_
  rw [after0_6]
  unfold outsAt0
  dsimp only
  have hy : (y (0 : Fin 2)).val < 128 := (y (0 : Fin 2)).isLt
  have hr : (grid0.coords t 0).val < 70 := (grid0.coords t 0).isLt
  have hx := index6 m hO t
  have h0 : ((((cfgM m hO).win 6).blk t).view.emb y (0 : Fin 2)).val = 128 * (grid0.coords t 0).val + (y (0 : Fin 2)).val := by
    blk_simp; rw [hx]; show (grid0.coords t 0).val * 128 + _ = _; omega
  have h1 : ((((cfgM m hO).win 6).blk t).view.emb y (1 : Fin 2)).val = (y (1 : Fin 2)).val := by
    blk_simp; rw [hx]; show 0 * 2048 + _ = _; omega
  refine (congrFun (rows_val _ _ _ _ _ _ _ _ _ _ _ _ _ _ _ _ _ _ _ _ _ _ _ _ _ _ _ _ _ _ _) y).trans ?_
  refine (out_block m hO c t he (y (0 : Fin 2)) (y (1 : Fin 2))).trans ?_
  have e0 : (⟨((((cfgM m hO).win 6).blk t).view.emb y (0 : Fin 2)).val / 128, by omega⟩ : Fin 70) = grid0.coords t 0 := Fin.ext (by show _ / 128 = _; rw [h0]; omega)
  have e1 : (⟨((((cfgM m hO).win 6).blk t).view.emb y (0 : Fin 2)).val % 128, by omega⟩ : Fin 128) = y (0 : Fin 2) := Fin.ext (by show _ % 128 = _; rw [h0]; omega)
  have e2 : (((cfgM m hO).win 6).blk t).view.emb y (1 : Fin 2) = y (1 : Fin 2) := Fin.ext h1
  exact (congr (congr (congrArg (outR (b0 m c) (b1 m c) (b2 m c) (b3 m c) (b4 m c) (b5 m c) e) e0) e1) e2).symm

end blocks

end Cert.KernelIdeal.Gen
end
-- ==== Proof.RGather.lean ====
/- The reference's gathers read at an index. -/
module

public import proofs.«01_k».proof.Proof.Gen.ReferenceIdeal.Frame
public import Idealize.ShloMosaic.Lib.Pipeline.ValueKit
public import Idealize.ShloMosaic.Lib.Pointwise
public import Idealize.ShloMosaic.Lib.PointwiseCore

@[expose] public section
set_option maxRecDepth 16384
noncomputable section
namespace Cert.ReferenceIdeal.Gen
open Cert.ReferenceIdeal Idealize.ShloMosaic Idealize.ShloMosaic.TcCoe Idealize.SL.Sem

/-! ## The reference's four gathers read at an index -/

/-- The gather of first weights at an index. -/
theorem gather_w1 {α : Type} (x : S16x128x1408x128.Idx → α) (idx : IVec S70x22x1 32) (r : Fin 70) (d : Fin 16) (k : Fin 128) (j : Fin 22) (n : Fin 128) :
    Host.gather gather_S16x128x1408x128_S70x22x1_S70x16x128x22x128_124_2_n_n_2_2_161281128 x idx (ix5 r d k j n) = x (ix4 d k ⟨min (idx (ix3 r j 0)).toInt.toNat (1408 - 1), by omega⟩ n) := by
  unfold Host.gather
  congr 1
  funext a
  refine Fin.ext ?_
  show gather_S16x128x1408x128_S70x22x1_S70x16x128x22x128_124_2_n_n_2_2_161281128.start (ix5 r d k j n) idx a + gather_S16x128x1408x128_S70x22x1_S70x16x128x22x128_124_2_n_n_2_2_161281128.batchCoord (ix5 r d k j n) a + gather_S16x128x1408x128_S70x22x1_S70x16x128x22x128_124_2_n_n_2_2_161281128.offCoord (ix5 r d k j n) a = _
  match a with
  | ⟨0, _⟩ => rw [GatherDims.batchCoord_eq_zero _ _ _ List.not_mem_nil]; unfold GatherDims.start; rw [dif_neg (show (⟨0, by decide⟩ : Fin 4) ∉ gather_S16x128x1408x128_S70x22x1_S70x16x128x22x128_124_2_n_n_2_2_161281128.startIndexMap from by decide)]; simp only [Nat.zero_add, Nat.add_zero]; rfl
  | ⟨1, _⟩ => rw [GatherDims.batchCoord_eq_zero _ _ _ List.not_mem_nil]; unfold GatherDims.start; rw [dif_neg (show (⟨1, by decide⟩ : Fin 4) ∉ gather_S16x128x1408x128_S70x22x1_S70x16x128x22x128_124_2_n_n_2_2_161281128.startIndexMap from by decide)]; simp only [Nat.zero_add, Nat.add_zero]; rfl
  | ⟨2, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨2, by decide⟩ : Fin 4) ∈ gather_S16x128x1408x128_S70x22x1_S70x16x128x22x128_124_2_n_n_2_2_161281128.startIndexMap from List.mem_singleton.mpr rfl)]
    have hsi : gather_S16x128x1408x128_S70x22x1_S70x16x128x22x128_124_2_n_n_2_2_161281128.siIdx (ix5 r d k j n) ⟨List.idxOf (⟨2, by decide⟩ : Fin 4) gather_S16x128x1408x128_S70x22x1_S70x16x128x22x128_124_2_n_n_2_2_161281128.startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl
  | ⟨3, _⟩ => rw [GatherDims.batchCoord_eq_zero _ _ _ List.not_mem_nil]; unfold GatherDims.start; rw [dif_neg (show (⟨3, by decide⟩ : Fin 4) ∉ gather_S16x128x1408x128_S70x22x1_S70x16x128x22x128_124_2_n_n_2_2_161281128.startIndexMap from by decide)]; simp only [Nat.zero_add, Nat.add_zero]; rfl

/-- The gather of first scales at an index. -/
theorem gather_s1 {α : Type} (x : S16x1408.Idx → α) (idx : IVec S70x22x1 32) (r : Fin 70) (d : Fin 16) (j : Fin 22) :
    Host.gather gather_S16x1408_S70x22x1_S70x16x22_1_1_n_n_1_2_161 x idx (ix3 r d j) = x (ix2 d ⟨min (idx (ix3 r j 0)).toInt.toNat (1408 - 1), by omega⟩) := by
  unfold Host.gather
  congr 1
  funext a
  refine Fin.ext ?_
  show gather_S16x1408_S70x22x1_S70x16x22_1_1_n_n_1_2_161.start (ix3 r d j) idx a + gather_S16x1408_S70x22x1_S70x16x22_1_1_n_n_1_2_161.batchCoord (ix3 r d j) a + gather_S16x1408_S70x22x1_S70x16x22_1_1_n_n_1_2_161.offCoord (ix3 r d j) a = _
  match a with
  | ⟨0, _⟩ => rw [GatherDims.batchCoord_eq_zero _ _ _ List.not_mem_nil]; unfold GatherDims.start; rw [dif_neg (show (⟨0, by decide⟩ : Fin 2) ∉ gather_S16x1408_S70x22x1_S70x16x22_1_1_n_n_1_2_161.startIndexMap from by decide)]; simp only [Nat.zero_add, Nat.add_zero]; rfl
  | ⟨1, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ gather_S16x1408_S70x22x1_S70x16x22_1_1_n_n_1_2_161.startIndexMap from List.mem_singleton.mpr rfl)]
    have hsi : gather_S16x1408_S70x22x1_S70x16x22_1_1_n_n_1_2_161.siIdx (ix3 r d j) ⟨List.idxOf (⟨1, by decide⟩ : Fin 2) gather_S16x1408_S70x22x1_S70x16x22_1_1_n_n_1_2_161.startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl

/-- The gather of second weights at an index. -/
theorem gather_w2 {α : Type} (x : S704x128x16x128.Idx → α) (idx : IVec S70x11x1 32) (r : Fin 70) (j : Fin 11) (k : Fin 128) (d : Fin 16) (n : Fin 128) :
    Host.gather gather_S704x128x16x128_S70x11x1_S70x11x128x16x128_234_0_n_n_0_2_112816128 x idx (ix5 r j k d n) = x (ix4 ⟨min (idx (ix3 r j 0)).toInt.toNat (704 - 1), by omega⟩ k d n) := by
  unfold Host.gather
  congr 1
  funext a
  refine Fin.ext ?_
  show gather_S704x128x16x128_S70x11x1_S70x11x128x16x128_234_0_n_n_0_2_112816128.start (ix5 r j k d n) idx a + gather_S704x128x16x128_S70x11x1_S70x11x128x16x128_234_0_n_n_0_2_112816128.batchCoord (ix5 r j k d n) a + gather_S704x128x16x128_S70x11x1_S70x11x128x16x128_234_0_n_n_0_2_112816128.offCoord (ix5 r j k d n) a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 4) ∈ gather_S704x128x16x128_S70x11x1_S70x11x128x16x128_234_0_n_n_0_2_112816128.startIndexMap from List.mem_singleton.mpr rfl)]
    have hsi : gather_S704x128x16x128_S70x11x1_S70x11x128x16x128_234_0_n_n_0_2_112816128.siIdx (ix5 r j k d n) ⟨List.idxOf (⟨0, by decide⟩ : Fin 4) gather_S704x128x16x128_S70x11x1_S70x11x128x16x128_234_0_n_n_0_2_112816128.startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl
  | ⟨1, _⟩ => rw [GatherDims.batchCoord_eq_zero _ _ _ List.not_mem_nil]; unfold GatherDims.start; rw [dif_neg (show (⟨1, by decide⟩ : Fin 4) ∉ gather_S704x128x16x128_S70x11x1_S70x11x128x16x128_234_0_n_n_0_2_112816128.startIndexMap from by decide)]; simp only [Nat.zero_add, Nat.add_zero]; rfl
  | ⟨2, _⟩ => rw [GatherDims.batchCoord_eq_zero _ _ _ List.not_mem_nil]; unfold GatherDims.start; rw [dif_neg (show (⟨2, by decide⟩ : Fin 4) ∉ gather_S704x128x16x128_S70x11x1_S70x11x128x16x128_234_0_n_n_0_2_112816128.startIndexMap from by decide)]; simp only [Nat.zero_add, Nat.add_zero]; rfl
  | ⟨3, _⟩ => rw [GatherDims.batchCoord_eq_zero _ _ _ List.not_mem_nil]; unfold GatherDims.start; rw [dif_neg (show (⟨3, by decide⟩ : Fin 4) ∉ gather_S704x128x16x128_S70x11x1_S70x11x128x16x128_234_0_n_n_0_2_112816128.startIndexMap from by decide)]; simp only [Nat.zero_add, Nat.add_zero]; rfl

/-- The gather of second scales at an index. -/
theorem gather_s2 {α : Type} (x : S704x16.Idx → α) (idx : IVec S70x11x1 32) (r : Fin 70) (j : Fin 11) (d : Fin 16) :
    Host.gather gather_S704x16_S70x11x1_S70x11x16_2_0_n_n_0_2_116 x idx (ix3 r j d) = x (ix2 ⟨min (idx (ix3 r j 0)).toInt.toNat (704 - 1), by omega⟩ d) := by
  unfold Host.gather
  congr 1
  funext a
  refine Fin.ext ?_
  show gather_S704x16_S70x11x1_S70x11x16_2_0_n_n_0_2_116.start (ix3 r j d) idx a + gather_S704x16_S70x11x1_S70x11x16_2_0_n_n_0_2_116.batchCoord (ix3 r j d) a + gather_S704x16_S70x11x1_S70x11x16_2_0_n_n_0_2_116.offCoord (ix3 r j d) a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ gather_S704x16_S70x11x1_S70x11x16_2_0_n_n_0_2_116.startIndexMap from List.mem_singleton.mpr rfl)]
    have hsi : gather_S704x16_S70x11x1_S70x11x16_2_0_n_n_0_2_116.siIdx (ix3 r j d) ⟨List.idxOf (⟨0, by decide⟩ : Fin 2) gather_S704x16_S70x11x1_S70x11x16_2_0_n_n_0_2_116.startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl
  | ⟨1, _⟩ => rw [GatherDims.batchCoord_eq_zero _ _ _ List.not_mem_nil]; unfold GatherDims.start; rw [dif_neg (show (⟨1, by decide⟩ : Fin 2) ∉ gather_S704x16_S70x11x1_S70x11x16_2_0_n_n_0_2_116.startIndexMap from by decide)]; simp only [Nat.zero_add, Nat.add_zero]; rfl

end Cert.ReferenceIdeal.Gen
end
-- ==== Proof.RHost.lean ====
/- The buffers the reference hands to its one kernel, read at an index: the gathered weights and scales are the columns and
   rows of the expert that the routing table names. -/
module

public import proofs.«01_k».proof.Proof.RGather
public import proofs.«01_k».proof.Proof.Route
public import Idealize.ShloMosaic.Lib.Pipeline.ValueKit
public import Idealize.ShloMosaic.Lib.Pointwise
public import Idealize.ShloMosaic.Lib.PointwiseCore

@[expose] public section
set_option maxRecDepth 16384
noncomputable section
namespace Cert.ReferenceIdeal.Gen
open Cert.ReferenceIdeal Idealize.ShloMosaic Idealize.ShloMosaic.TcCoe Idealize.SL.Sem

/-! ## The buffers the reference's one kernel is handed, read at an index -/

/-- The block column `j` of the two weights of expert `e`: its eleven gate columns, then its eleven up columns. -/
def colOf (e j : ℕ) : ℕ := if j < 11 then 11 * e + j else 704 + 11 * e + (j - 11)

/-- A block column is one of 1408. -/
theorem colOf_lt (e : Fin 64) (j : Fin 22) : colOf e.val j.val < 1408 := by
  unfold colOf; split <;> omega

/-- A small number read back from its word. -/
theorem word_nat (n : ℕ) (h : n < 1408) : (BitVec.ofNat 32 n).toInt.toNat = n := by
  rw [BitVec.toInt_eq_toNat_of_lt (by rw [BitVec.toNat_ofNat]; omega), BitVec.toNat_ofNat, Int.toNat_natCast]
  omega

section columns
variable (a : IVec S70x11 32) {e : Fin 70 → Fin 64} (he : Cert.Route.Sends a e)

/-- The column table with the up columns beside it. -/
abbrev cols2 : IVec S70x22x1 32 := broadcastInDim S70x22x1 ![0, 1] bcast_S70x22_S70x22x1_0_1
  (concatenate S70x22 1 [⟨S70x11, a⟩, ⟨S70x11, addi a (broadcastInDim S70x11 ![] bcast_S_S70x11 (constantI S_ 32 704#32))⟩] concatenates_S70x11_S70x11_S70x22_d1)

/-- The doubled column table at an index. -/
theorem cols2_at (r : Fin 70) (j : Fin 22) : cols2 a (ix3 r j 0) = if h : j.val < 11 then a (ix2 r ⟨j.val, h⟩) else IntOp.addi (a (ix2 r ⟨j.val - 11, by omega⟩)) 704#32 := by
  pointwise

include he in
/-- The doubled column table's word as a number. -/
theorem cols2_nat (r : Fin 70) (j : Fin 22) : (cols2 a (ix3 r j 0)).toInt.toNat = colOf (e r).val j.val := by
  have hw : cols2 a (ix3 r j 0) = BitVec.ofNat 32 (colOf (e r).val j.val) := by
    rw [cols2_at]
    unfold colOf
    split
    · exact he r _
    · refine (congrArg (IntOp.addi · 704#32) (he r _)).trans ?_
      refine BitVec.eq_of_toNat_eq ?_
      simp only [IntOp.addi, BitVec.toNat_add, BitVec.toNat_ofNat]
      omega
  rw [hw, word_nat _ (colOf_lt (e r) j)]

include he in
/-- The column table's word as a number. -/
theorem cols_nat (r : Fin 70) (j : Fin 11) : (broadcastInDim S70x11x1 ![0, 1] bcast_S70x11_S70x11x1_0_1 a (ix3 r j 0)).toInt.toNat = 11 * (e r).val + j.val := by
  have hw : broadcastInDim S70x11x1 ![0, 1] bcast_S70x11_S70x11x1_0_1 a (ix3 r j 0) = BitVec.ofNat 32 (11 * (e r).val + j.val) := by
    refine Eq.trans ?_ (he r j)
    pointwise
  rw [hw, word_nat _ (by omega)]
end columns

section buffers
variable (m : (ℓ : Loc nD τ sig) → Buf (Elt Ideal) ℓ) (c : Dev nD)
  {e : Fin 70 → Fin 64} (he : Cert.Route.Sends (m ((c : Thread nD τ).loc main_arg6)) e)

/-- The token codes handed to the body. -/
theorem x_at (r : Fin 70) (i : Fin 128) (d : Fin 16) (l : Fin 128) : V m c main_v9 (ix4 r i d l) = m ((c : Thread nD τ).loc main_arg0) (ix2 ⟨128 * r.val + i.val, by omega⟩ ⟨128 * d.val + l.val, by omega⟩) := by
  unfold V
  simp only [hostOps0, hostOps0_1, hostOps0_2, hostOps0_3, hostOps0_4, hostOps0_5, hostOps0_6, List.flatten_cons, List.flatten_nil, List.append_nil, List.cons_append, List.nil_append]
  after_results_simp
  after_results_loop
  pointwise
  exact congrArg _ (congrArg₂ ix2 (Fin.ext (by dsimp only; omega)) (Fin.ext (by dsimp only; omega)))

/-- The token scales handed to the body. -/
theorem xs_at (r : Fin 70) (i : Fin 128) (d : Fin 16) : V m c main_v10 (ix3 r i d) = m ((c : Thread nD τ).loc main_arg1) (ix2 ⟨128 * r.val + i.val, by omega⟩ d) := by
  unfold V
  simp only [hostOps0, hostOps0_1, hostOps0_2, hostOps0_3, hostOps0_4, hostOps0_5, hostOps0_6, List.flatten_cons, List.flatten_nil, List.append_nil, List.cons_append, List.nil_append]
  after_results_simp
  after_results_loop
  pointwise
  exact congrArg _ (congrArg₂ ix2 (Fin.ext (by dsimp only; omega)) rfl)

include he in
/-- The gathered first weights are the expert's. -/
theorem w1_at (r : Fin 70) (d : Fin 16) (k : Fin 128) (j : Fin 22) (n : Fin 128) : V m c main_v4 (ix5 r d k j n) =
    m ((c : Thread nD τ).loc main_arg2) (ix2 ⟨128 * d.val + k.val, by omega⟩ ⟨128 * colOf (e r).val j.val + n.val, by have := colOf_lt (e r) j; omega⟩) := by
  unfold V
  simp only [hostOps0, hostOps0_1, hostOps0_2, hostOps0_3, hostOps0_4, hostOps0_5, hostOps0_6, List.flatten_cons, List.flatten_nil, List.append_nil, List.cons_append, List.nil_append]
  after_results_simp
  after_results_loop
  simp only [StableHlo.TRef.ofBuf_toBuf, StableHlo.TRef.ofBuf, StableHlo.TRef.toBuf, cast_eq, id_eq]
  refine (gather_w1 _ _ r d k j n).trans ?_
  have hc := cols2_nat _ he r j
  have hl := colOf_lt (e r) j
  have hq : (⟨min (cols2 (m ((c : Thread nD τ).loc main_arg6)) (ix3 r j 0)).toInt.toNat (1408 - 1), by omega⟩ : Fin 1408) = ⟨colOf (e r).val j.val, hl⟩ :=
    Fin.ext ((congrArg (min · (1408 - 1)) hc).trans (by dsimp only; omega))
  refine (congrArg (fun q : Fin 1408 => (_ : S16x128x1408x128.Idx → EReal) (ix4 d k q n)) hq).trans ?_
  pointwise
  exact congrArg _ (congrArg₂ ix2 (Fin.ext (by dsimp only; omega)) (Fin.ext (by dsimp only; omega)))

include he in
/-- The gathered first scales are the expert's. -/
theorem s1_at (r : Fin 70) (d : Fin 16) (j : Fin 22) : V m c main_v5 (ix3 r d j) =
    m ((c : Thread nD τ).loc main_arg3) (ix2 d ⟨colOf (e r).val j.val, colOf_lt (e r) j⟩) := by
  unfold V
  simp only [hostOps0, hostOps0_1, hostOps0_2, hostOps0_3, hostOps0_4, hostOps0_5, hostOps0_6, List.flatten_cons, List.flatten_nil, List.append_nil, List.cons_append, List.nil_append]
  after_results_simp
  after_results_loop
  simp only [StableHlo.TRef.ofBuf_toBuf, StableHlo.TRef.ofBuf, StableHlo.TRef.toBuf, cast_eq, id_eq]
  refine (gather_s1 _ _ r d j).trans ?_
  have hc := cols2_nat _ he r j
  have hl := colOf_lt (e r) j
  refine congrArg _ (congrArg₂ ix2 rfl (Fin.ext ?_))
  refine (congrArg (min · (1408 - 1)) hc).trans ?_
  dsimp only
  omega

include he in
/-- The gathered second weights are the expert's. -/
theorem w2_at (r : Fin 70) (j : Fin 11) (k : Fin 128) (d : Fin 16) (n : Fin 128) : V m c main_v7 (ix5 r j k d n) =
    m ((c : Thread nD τ).loc main_arg4) (ix2 ⟨128 * (11 * (e r).val + j.val) + k.val, by omega⟩ ⟨128 * d.val + n.val, by omega⟩) := by
  unfold V
  simp only [hostOps0, hostOps0_1, hostOps0_2, hostOps0_3, hostOps0_4, hostOps0_5, hostOps0_6, List.flatten_cons, List.flatten_nil, List.append_nil, List.cons_append, List.nil_append]
  after_results_simp
  after_results_loop
  simp only [StableHlo.TRef.ofBuf_toBuf, StableHlo.TRef.ofBuf, StableHlo.TRef.toBuf, cast_eq, id_eq]
  refine (gather_w2 _ _ r j k d n).trans ?_
  have hc := cols_nat _ he r j
  have hq : (⟨min (broadcastInDim S70x11x1 ![0, 1] bcast_S70x11_S70x11x1_0_1 (m ((c : Thread nD τ).loc main_arg6)) (ix3 r j 0)).toInt.toNat (704 - 1), by omega⟩ : Fin 704) = ⟨11 * (e r).val + j.val, by omega⟩ :=
    Fin.ext ((congrArg (min · (704 - 1)) hc).trans (by dsimp only; omega))
  refine (congrArg (fun q : Fin 704 => (_ : S704x128x16x128.Idx → EReal) (ix4 q k d n)) hq).trans ?_
  pointwise
  exact congrArg _ (congrArg₂ ix2 (Fin.ext (by dsimp only; omega)) (Fin.ext (by dsimp only; omega)))

include he in
/-- The gathered second scales are the expert's. -/
theorem s2_at (r : Fin 70) (j : Fin 11) (d : Fin 16) : V m c main_v8 (ix3 r j d) =
    m ((c : Thread nD τ).loc main_arg5) (ix2 ⟨11 * (e r).val + j.val, by omega⟩ d) := by
  unfold V
  simp only [hostOps0, hostOps0_1, hostOps0_2, hostOps0_3, hostOps0_4, hostOps0_5, hostOps0_6, List.flatten_cons, List.flatten_nil, List.append_nil, List.cons_append, List.nil_append]
  after_results_simp
  after_results_loop
  simp only [StableHlo.TRef.ofBuf_toBuf, StableHlo.TRef.ofBuf, StableHlo.TRef.toBuf, cast_eq, id_eq]
  refine (gather_s2 _ _ r j d).trans ?_
  have hc := cols_nat _ he r j
  refine congrArg _ (congrArg₂ ix2 (Fin.ext ?_) rfl)
  refine (congrArg (min · (704 - 1)) hc).trans ?_
  dsimp only
  omega
end buffers

end Cert.ReferenceIdeal.Gen
end
-- ==== Proof.RPay.lean ====
/- The reference's hidden activations, block maxima and exponents at an index. -/
module

public import proofs.«01_k».proof.Proof.RHost
public import proofs.«01_k».proof.Proof.Spec
public import Idealize.ShloMosaic.Lib.Pipeline.ValueKit
public import Idealize.ShloMosaic.Lib.Pointwise
public import Idealize.ShloMosaic.Lib.PointwiseCore

@[expose] public section
set_option maxRecDepth 16384
noncomputable section
namespace Cert.ReferenceIdeal.Gen
open Cert.ReferenceIdeal Idealize.ShloMosaic Idealize.ShloMosaic.TcCoe Idealize.SL.Sem

/-! ## The reference's computed values, read at an index

`x`, `xs`, `w`, `s` are the tokens and the gathered first weights as blocks of 128 with their scales, `w2`, `s2` the gathered second weights. -/

open Cert.KernelIdeal.Gen (hAt amax codeOf xR gW uW dW hR aR codeR scaleR outR)

/-- A hidden column is one of 1408. -/
theorem q_lt (j : Fin 11) (n : Fin 128) : 128 * j.val + n.val < 1408 := by omega
/-- A row is one of 8960. -/
theorem r_lt (r : Fin 70) (i : Fin 128) : 128 * r.val + i.val < 8960 := by omega
/-- A model column is one of 2048. -/
theorem k_lt (d : Fin 16) (l : Fin 128) : 128 * d.val + l.val < 2048 := by omega
/-- A weight column is one of 180224. -/
theorem c_lt (e : Fin 64) (j : Fin 22) (n : Fin 128) : 128 * colOf e.val j.val + n.val < 180224 := by have := colOf_lt e j; omega

section payloads
variable (x : S70x128x16x128.Idx → EReal) (xs : S70x128x16.Idx → EReal) (w : S70x16x128x22x128.Idx → EReal) (s : S70x16x22.Idx → EReal)
  (w2 : S70x11x128x16x128.Idx → EReal) (s2 : S70x11x16.Idx → EReal)
variable {a0 : S8960x2048.Idx → EReal} {a1 : S8960x16.Idx → EReal} {a2 : S2048x180224.Idx → EReal} {a3 : S16x1408.Idx → EReal}
  {a4 : S90112x2048.Idx → EReal} {a5 : S704x16.Idx → EReal} {e : Fin 70 → Fin 64}

/-- One product of the first matrix product is the product of the dequantised token and weight. -/
theorem term_at {n : ℕ} (r : Fin 70) (i : Fin 128) (hx : ∀ d l, x (ix4 r i d l) = a0 (ix2 ⟨128 * r.val + i.val, r_lt r i⟩ ⟨128 * d.val + l.val, k_lt d l⟩))
    (hxs : ∀ d, xs (ix3 r i d) = a1 (ix2 ⟨128 * r.val + i.val, r_lt r i⟩ d))
    (K : Fin 2048) (h1 : K.val / 128 < 16) (h2 : K.val % 128 < 128) :
    x (ix4 r i ⟨K.val / 128, h1⟩ ⟨K.val % 128, h2⟩) * xs (ix3 r i ⟨K.val / 128, h1⟩) = xR a0 a1 r i K := by
  rw [hx, hxs]
  refine congrArg₂ (· * ·) (congrArg a0 (congrArg₂ ix2 (Fin.ext rfl) (Fin.ext ?_))) (congrArg a1 (congrArg₂ ix2 (Fin.ext rfl) (Fin.ext rfl)))
  dsimp only; omega

section first
variable (r : Fin 70) (hw : ∀ d k (j : Fin 22) n, w (ix5 r d k j n) = a2 (ix2 ⟨128 * d.val + k.val, k_lt d k⟩ ⟨128 * colOf (e r).val j.val + n.val, c_lt (e r) j n⟩))
  (hs : ∀ d (j : Fin 22), s (ix3 r d j) = a3 (ix2 d ⟨colOf (e r).val j.val, colOf_lt (e r) j⟩))

include hw hs in
/-- One factor of the gate product is the dequantised gate weight. -/
theorem gate_at (K : Fin 2048) (j : Fin 11) (n : Fin 128) (j' : Fin 22) (n' : Fin 128) (hj : j'.val = j.val) (hn : n'.val = n.val)
    (h1 : K.val / 128 < 16) (h2 : K.val % 128 < 128) :
    w (ix5 r ⟨K.val / 128, h1⟩ ⟨K.val % 128, h2⟩ j' n') * s (ix3 r ⟨K.val / 128, h1⟩ j') = gW a2 a3 (e r) ⟨128 * j.val + n.val, q_lt j n⟩ K := by
  rw [hw, hs]
  have hc : colOf (e r).val j'.val = 11 * (e r).val + j.val := by unfold colOf; rw [if_pos (by omega)]; omega
  refine congrArg₂ (· * ·) (congrArg a2 (congrArg₂ ix2 (Fin.ext ?_) (Fin.ext ?_))) (congrArg a3 (congrArg₂ ix2 (Fin.ext rfl) (Fin.ext ?_)))
  · dsimp only; omega
  · dsimp only; omega
  · dsimp only; omega

include hw hs in
/-- One factor of the up product is the dequantised up weight. -/
theorem up_at (K : Fin 2048) (j : Fin 11) (n : Fin 128) (j' : Fin 22) (n' : Fin 128) (hj : j'.val = 11 + j.val) (hn : n'.val = n.val)
    (h1 : K.val / 128 < 16) (h2 : K.val % 128 < 128) :
    w (ix5 r ⟨K.val / 128, h1⟩ ⟨K.val % 128, h2⟩ j' n') * s (ix3 r ⟨K.val / 128, h1⟩ j') = uW a2 a3 (e r) ⟨128 * j.val + n.val, q_lt j n⟩ K := by
  rw [hw, hs]
  have hc : colOf (e r).val j'.val = 704 + 11 * (e r).val + j.val := by unfold colOf; rw [if_neg (by omega)]; omega
  refine congrArg₂ (· * ·) (congrArg a2 (congrArg₂ ix2 (Fin.ext ?_) (Fin.ext ?_))) (congrArg a3 (congrArg₂ ix2 (Fin.ext rfl) (Fin.ext ?_)))
  · dsimp only; omega
  · dsimp only; omega
  · dsimp only; omega

include hw hs in
/-- The hidden activations before they are quantised. -/
theorem pay2_at (hx : ∀ i d l, x (ix4 r i d l) = a0 (ix2 ⟨128 * r.val + i.val, r_lt r i⟩ ⟨128 * d.val + l.val, k_lt d l⟩))
    (hxs : ∀ i d, xs (ix3 r i d) = a1 (ix2 ⟨128 * r.val + i.val, r_lt r i⟩ d)) (i : Fin 128) (j : Fin 11) (n : Fin 128) :
    k0_pay2 (F := Ideal) x xs w s (ix4 r i j n) = hR a0 a1 a2 a3 e r i ⟨128 * j.val + n.val, q_lt j n⟩ := by
  pointwise [k0_pay2]
  unfold hR hAt
  refine congrArg₂ (· * ·) (congrArg₂ (· * ·) ?_ (congrArg Ideal.logistic ?_)) ?_ <;> refine Finset.sum_congr rfl fun K _ => congrArg₂ (· * ·) ?_ ?_
  · exact term_at (n := 0) x xs r i (hx i) (hxs i) K _ _
  · exact gate_at w s r hw hs K j n _ _ (by dsimp only; omega) (by omega) _ _
  · exact term_at (n := 0) x xs r i (hx i) (hxs i) K _ _
  · exact gate_at w s r hw hs K j n _ _ (by dsimp only; omega) (by omega) _ _
  · exact term_at (n := 0) x xs r i (hx i) (hxs i) K _ _
  · exact up_at w s r hw hs K j n _ _ (by dsimp only; omega) (by omega) _ _

/-- The largest magnitudes. -/
theorem pay3_at (r : Fin 70) (i : Fin 128) (j : Fin 11) : k0_pay3 (F := Ideal) x xs w s (ix4 r i j 0) = amax fun n => k0_pay2 (F := Ideal) x xs w s (ix4 r i j n) := by
  unfold k0_pay3
  generalize k0_pay2 (F := Ideal) x xs w s = h
  pointwise
  rfl

/-- The exponents before they are clipped, operation by operation. -/
theorem pay4_ops {F : FTy → Type} [FloatOps F] (x : Vec F S70x128x16x128 .fp8e4m3) (xs : Vec F S70x128x16 .f32) (w : Vec F S70x16x128x22x128 .fp8e4m3) (s : Vec F S70x16x22 .f32)
    (y : S70x128x11x1.Idx) : k0_pay4 (F := F) x xs w s y
    = FloatOps.addf (FloatOps.floor (FloatOps.divf (FloatOps.log (FloatOps.mulf (k0_pay3 x xs w s y) (Scalar.ofBits .f32 0x3B124925#32))) (FloatOps.log (Scalar.ofBits .f32 0x40000000#32)))) (Scalar.ofBits .f32 0x3F800000#32) := by
  unfold k0_pay4
  generalize k0_pay3 x xs w s = h
  rfl
end first
end payloads

section whole
variable {x : S70x128x16x128.Idx → EReal} {xs : S70x128x16.Idx → EReal} {w : S70x16x128x22x128.Idx → EReal} {s : S70x16x22.Idx → EReal}
variable {a0 : S8960x2048.Idx → EReal} {a1 : S8960x16.Idx → EReal} {a2 : S2048x180224.Idx → EReal} {a3 : S16x1408.Idx → EReal} {e : Fin 70 → Fin 64}
variable (hx : ∀ (r : Fin 70) (i : Fin 128) (d : Fin 16) (l : Fin 128), x (ix4 r i d l) = a0 (ix2 ⟨128 * r.val + i.val, r_lt r i⟩ ⟨128 * d.val + l.val, k_lt d l⟩))
  (hxs : ∀ (r : Fin 70) (i : Fin 128) d, xs (ix3 r i d) = a1 (ix2 ⟨128 * r.val + i.val, r_lt r i⟩ d))
  (hw : ∀ (r : Fin 70) (d : Fin 16) (k : Fin 128) (j : Fin 22) (n : Fin 128), w (ix5 r d k j n) = a2 (ix2 ⟨128 * d.val + k.val, k_lt d k⟩ ⟨128 * colOf (e r).val j.val + n.val, c_lt (e r) j n⟩))
  (hs : ∀ (r : Fin 70) (d : Fin 16) (j : Fin 22), s (ix3 r d j) = a3 (ix2 d ⟨colOf (e r).val j.val, colOf_lt (e r) j⟩))

include hx hxs hw hs in
/-- The hidden activations. -/
theorem hidden_at (r : Fin 70) (i : Fin 128) (j : Fin 11) (n : Fin 128) :
    k0_pay2 (F := Ideal) x xs w s (ix4 r i j n) = hR a0 a1 a2 a3 e r i ⟨128 * j.val + n.val, q_lt j n⟩ :=
  pay2_at x xs w s r (hw r) (hs r) (hx r) (hxs r) i j n
end whole

end Cert.ReferenceIdeal.Gen
end
-- ==== Proof.RPay2.lean ====
/- The reference's exponents, codes, scales and output at an index. -/
module

public import proofs.«01_k».proof.Proof.RPay
public import Idealize.ShloMosaic.Lib.Pipeline.ValueKit
public import Idealize.ShloMosaic.Lib.Pointwise
public import Idealize.ShloMosaic.Lib.PointwiseCore
public import Idealize.ShloMosaic.Lib.IdealHost

@[expose] public section
set_option maxRecDepth 16384
noncomputable section
namespace Cert.ReferenceIdeal.Gen
open Cert.ReferenceIdeal Idealize.ShloMosaic Idealize.ShloMosaic.TcCoe Idealize.SL.Sem

open Cert.KernelIdeal.Gen (hAt amax codeOf xR gW uW dW hR aR codeR scaleR outR)
/-- The exponents before they are clipped: the floor of the base-two logarithm of the scaled magnitude, plus one. -/
theorem pay4_at (x : S70x128x16x128.Idx → EReal) (xs : S70x128x16.Idx → EReal) (w : S70x16x128x22x128.Idx → EReal) (s : S70x16x22.Idx → EReal)
    (y : S70x128x11x1.Idx) : k0_pay4 (F := Ideal) x xs w s y
    = Ideal.liftRound Int.floor (Ideal.div (Ideal.log (k0_pay3 (F := Ideal) x xs w s y * Cert.Quant.c448)) (Ideal.log (Ideal.ofBits .f32 1073741824#32))) + 1 := by
  refine (pay4_ops (F := Ideal) x xs w s y).trans ?_
  generalize k0_pay3 (F := Ideal) x xs w s y = h
  exact congrArg₂ (· + ·) rfl Idealize.ShloMosaic.Ideal.ofBits_one_f32

section second
variable (w2 : S70x11x128x16x128.Idx → EReal) (s2 : S70x11x16.Idx → EReal)
variable {a0 : S8960x2048.Idx → EReal} {a1 : S8960x16.Idx → EReal} {a2 : S2048x180224.Idx → EReal} {a3 : S16x1408.Idx → EReal}
  {a4 : S90112x2048.Idx → EReal} {a5 : S704x16.Idx → EReal} {e : Fin 70 → Fin 64}
variable (h : S70x128x11x128.Idx → EReal) (t f : S70x128x11x1.Idx → EReal)

/-- The exponent, with the lower clip a variable. -/
theorem pay5_ops (cst : EReal) (r : Fin 70) (i : Fin 128) (j : Fin 11) : k0_pay5 (F := Ideal) t f cst (ix4 r i j 0)
    = if t (ix4 r i j 0) = 0 then 0 else min (Ideal.ofBits .f32 1123811328#32) (max cst (f (ix4 r i j 0))) := by
  pointwise [k0_pay5]

/-- The exponent of a block whose largest magnitude is `t`. -/
theorem pay5_at (r : Fin 70) (i : Fin 128) (j : Fin 11) (hf : f (ix4 r i j 0) = Ideal.liftRound Int.floor (Ideal.div (Ideal.log (t (ix4 r i j 0) * Cert.Quant.c448)) (Ideal.log (Ideal.ofBits .f32 1073741824#32))) + 1) :
    k0_pay5 (F := Ideal) t f (Scalar.ofBits .f32 0xC2FC0000#32) (ix4 r i j 0) = Cert.Quant.rexp (t (ix4 r i j 0)) := by
  refine (pay5_ops t f _ r i j).trans ?_
  unfold Cert.Quant.rexp
  rw [← hf]
  generalize f (ix4 r i j 0) = q
  rfl

/-- The codes. -/
theorem pay6_at (r : Fin 70) (i : Fin 128) (j : Fin 11) (n : Fin 128)
    (he : k0_pay5 (F := Ideal) t f (Scalar.ofBits .f32 0xC2FC0000#32) (ix4 r i j 0) = Cert.Quant.rexp (t (ix4 r i j 0))) :
    k0_pay6 (F := Ideal) h t f (Scalar.ofBits .f32 0xC2FC0000#32) (ix4 r i j n) = codeOf (t (ix4 r i j 0)) (h (ix4 r i j n)) := by
  unfold k0_pay6 codeOf
  rw [← he]
  generalize k0_pay5 (F := Ideal) t f (Scalar.ofBits .f32 0xC2FC0000#32) = p
  pointwise
  rfl

/-- The scales. -/
theorem pay7_at (y : S70x128x11x1.Idx)
    (he : k0_pay5 (F := Ideal) t f (Scalar.ofBits .f32 0xC2FC0000#32) y = Cert.Quant.rexp (t y)) :
    k0_pay7 (F := Ideal) t f (Scalar.ofBits .f32 0xC2FC0000#32) y = Ideal.exp2 (Cert.Quant.rexp (t y)) := by
  rw [← he]
  rfl

/-- The scales as the third result lays them out. -/
theorem pay1_at (p : S70x128x11x1.Idx → EReal) (y : S8960x11.Idx) :
    k0_pay1 (F := Ideal) p y = p (ix4 ⟨(y 0).val / 128, by have := (y 0).isLt; dsimp at this; omega⟩ ⟨(y 0).val % 128, by omega⟩ (y 1) 0) := by
  rw [Cert.KernelIdeal.Gen.idx2 y]
  pointwise [k0_pay1]

/-- The codes as the second result lays them out. -/
theorem pay9_at (y : S8960x1408.Idx) :
    k0_pay9 (F := Ideal) h t f (Scalar.ofBits .f32 0xC2FC0000#32) y = k0_pay6 (F := Ideal) h t f (Scalar.ofBits .f32 0xC2FC0000#32)
      (ix4 ⟨(y 0).val / 128, by have := (y 0).isLt; dsimp at this; omega⟩ ⟨(y 0).val % 128, by omega⟩ ⟨(y 1).val / 128, by have := (y 1).isLt; dsimp at this; omega⟩ ⟨(y 1).val % 128, by omega⟩) := by
  unfold k0_pay9
  generalize k0_pay6 (F := Ideal) h t f (Scalar.ofBits .f32 0xC2FC0000#32) = p
  rw [Cert.KernelIdeal.Gen.idx2 y]
  pointwise

/-- The output. -/
theorem pay8_at (r : Fin 70) (i : Fin 128) (N : Fin 2048) (y : S8960x2048.Idx) (h0 : (y 0).val = 128 * r.val + i.val) (h1 : (y 1).val = N.val)
    (hc : ∀ j n, k0_pay6 (F := Ideal) h t f (Scalar.ofBits .f32 0xC2FC0000#32) (ix4 r i j n) = codeR a0 a1 a2 a3 e r i ⟨128 * j.val + n.val, by omega⟩)
    (hs : ∀ j, k0_pay7 (F := Ideal) t f (Scalar.ofBits .f32 0xC2FC0000#32) (ix4 r i j 0) = scaleR a0 a1 a2 a3 e r i j)
    (hw : ∀ (j : Fin 11) k d n, w2 (ix5 r j k d n) = a4 (ix2 ⟨128 * (11 * (e r).val + j.val) + k.val, by omega⟩ ⟨128 * d.val + n.val, by omega⟩))
    (hws : ∀ (j : Fin 11) d, s2 (ix3 r j d) = a5 (ix2 ⟨11 * (e r).val + j.val, by omega⟩ d)) :
    k0_pay8 (F := Ideal) h t f (Scalar.ofBits .f32 0xC2FC0000#32) w2 s2 y = outR a0 a1 a2 a3 a4 a5 e r i N := by
  unfold k0_pay8
  generalize k0_pay6 (F := Ideal) h t f (Scalar.ofBits .f32 0xC2FC0000#32) = p at hc ⊢
  generalize k0_pay7 (F := Ideal) t f (Scalar.ofBits .f32 0xC2FC0000#32) = q at hs ⊢
  have hy : y = ix2 ⟨128 * r.val + i.val, by omega⟩ N := (Cert.KernelIdeal.Gen.idx2 y).trans (congrArg₂ ix2 (Fin.ext h0) (Fin.ext h1))
  rw [hy]
  pointwise
  unfold outR
  refine Finset.sum_congr rfl fun K _ => congrArg₂ (· * ·) (congrArg₂ (· * ·) ?_ ?_) ?_
  · exact (hc ⟨K.val / 128, by omega⟩ ⟨K.val % 128, by omega⟩).trans (congrArg _ (Fin.ext (by dsimp only; omega)))
  · exact hs ⟨K.val / 128, by omega⟩
  · unfold dW
    refine congrArg₂ (· * ·) ((hw _ _ _ _).trans (congrArg a4 (congrArg₂ ix2 (Fin.ext ?_) (Fin.ext ?_)))) (hws _ _)
    · dsimp only; omega
    · dsimp only; omega
end second

end Cert.ReferenceIdeal.Gen
end
-- ==== Proof.RBlock.lean ====
/- The reference's three result arrays after the run are the functions of `Proof/Spec.lean`. -/
module

public import proofs.«01_k».proof.Proof.RPay2
public import Idealize.ShloMosaic.Lib.Pipeline.ValueKit
public import Idealize.ShloMosaic.Lib.Pointwise
public import Idealize.ShloMosaic.Lib.PointwiseCore
public import proofs.«01_k».proof.Proof.Gen.ReferenceIdeal.Value

@[expose] public section
set_option maxRecDepth 16384
noncomputable section
namespace Cert.ReferenceIdeal.Gen
open Cert.ReferenceIdeal Idealize.ShloMosaic Idealize.ShloMosaic.TcCoe Idealize.SL.Sem

/-! ## The reference's three results -/

open Cert.KernelIdeal.Gen (hR aR codeR scaleR outR)

section values
variable {x : S70x128x16x128.Idx → EReal} {xs : S70x128x16.Idx → EReal} {w : S70x16x128x22x128.Idx → EReal} {s : S70x16x22.Idx → EReal}
  {w2 : S70x11x128x16x128.Idx → EReal} {s2 : S70x11x16.Idx → EReal}
variable {a0 : S8960x2048.Idx → EReal} {a1 : S8960x16.Idx → EReal} {a2 : S2048x180224.Idx → EReal} {a3 : S16x1408.Idx → EReal}
  {a4 : S90112x2048.Idx → EReal} {a5 : S704x16.Idx → EReal} {e : Fin 70 → Fin 64}
variable (hx : ∀ (r : Fin 70) (i : Fin 128) (d : Fin 16) (l : Fin 128), x (ix4 r i d l) = a0 (ix2 ⟨128 * r.val + i.val, by omega⟩ ⟨128 * d.val + l.val, by omega⟩))
  (hxs : ∀ (r : Fin 70) (i : Fin 128) d, xs (ix3 r i d) = a1 (ix2 ⟨128 * r.val + i.val, by omega⟩ d))
  (hw : ∀ (r : Fin 70) (d : Fin 16) (k : Fin 128) (j : Fin 22) (n : Fin 128), w (ix5 r d k j n) = a2 (ix2 ⟨128 * d.val + k.val, by omega⟩ ⟨128 * colOf (e r).val j.val + n.val, by have := colOf_lt (e r) j; omega⟩))
  (hs : ∀ (r : Fin 70) (d : Fin 16) (j : Fin 22), s (ix3 r d j) = a3 (ix2 d ⟨colOf (e r).val j.val, colOf_lt (e r) j⟩))
  (hw2 : ∀ (r : Fin 70) (j : Fin 11) (k : Fin 128) (d : Fin 16) (n : Fin 128), w2 (ix5 r j k d n) = a4 (ix2 ⟨128 * (11 * (e r).val + j.val) + k.val, by omega⟩ ⟨128 * d.val + n.val, by omega⟩))
  (hs2 : ∀ (r : Fin 70) (j : Fin 11) d, s2 (ix3 r j d) = a5 (ix2 ⟨11 * (e r).val + j.val, by omega⟩ d))

/-- The body's hidden activations, its loads being whole buffers. -/
theorem hidden_eq : k0_pay10 (F := Ideal) x xs w s w2 s2 = k0_pay2 (F := Ideal) x xs w s := by
  unfold k0_pay10 r0_0 r0_1 r0_2 r0_3
  rw [View.ld_unit_lit, View.ld_unit_lit, View.ld_unit_lit, View.ld_unit_lit] <;> decide

/-- The body's block maxima, its loads being whole buffers. -/
theorem maxes_eq : k0_pay11 (F := Ideal) x xs w s w2 s2 = k0_pay3 (F := Ideal) x xs w s := by
  unfold k0_pay11 r0_0 r0_1 r0_2 r0_3
  rw [View.ld_unit_lit, View.ld_unit_lit, View.ld_unit_lit, View.ld_unit_lit] <;> decide

/-- The body's exponents, its loads being whole buffers. -/
theorem exps_eq : k0_pay12 (F := Ideal) x xs w s w2 s2 = k0_pay4 (F := Ideal) x xs w s := by
  unfold k0_pay12 r0_0 r0_1 r0_2 r0_3
  rw [View.ld_unit_lit, View.ld_unit_lit, View.ld_unit_lit, View.ld_unit_lit] <;> decide

include hx hxs hw hs

/-- The largest magnitudes. -/
theorem maxes_at (r : Fin 70) (i : Fin 128) (j : Fin 11) :
    k0_pay3 (F := Ideal) x xs w s (ix4 r i j 0) = aR a0 a1 a2 a3 e r i j := by
  refine (pay3_at x xs w s r i j).trans ?_
  unfold aR
  exact congrArg _ (funext fun n => hidden_at hx hxs hw hs r i j n)

/-- The exponents. -/
theorem exps_at (r : Fin 70) (i : Fin 128) (j : Fin 11) :
    k0_pay5 (F := Ideal) (k0_pay3 (F := Ideal) x xs w s) (k0_pay4 (F := Ideal) x xs w s) (Scalar.ofBits .f32 0xC2FC0000#32) (ix4 r i j 0)
      = Cert.Quant.rexp (k0_pay3 (F := Ideal) x xs w s (ix4 r i j 0)) :=
  pay5_at _ _ r i j (pay4_at x xs w s _)

/-- The codes. -/
theorem codes_at (r : Fin 70) (i : Fin 128) (j : Fin 11) (n : Fin 128) :
    k0_pay6 (F := Ideal) (k0_pay2 (F := Ideal) x xs w s) (k0_pay3 (F := Ideal) x xs w s) (k0_pay4 (F := Ideal) x xs w s) (Scalar.ofBits .f32 0xC2FC0000#32) (ix4 r i j n)
      = codeR a0 a1 a2 a3 e r i ⟨128 * j.val + n.val, by omega⟩ := by
  refine (pay6_at _ _ _ r i j n (exps_at hx hxs hw hs r i j)).trans ?_
  unfold codeR
  refine congrArg₂ _ ((maxes_at hx hxs hw hs r i j).trans (congrArg _ (Fin.ext ?_))) (hidden_at hx hxs hw hs r i j n)
  dsimp only; omega

/-- The scales. -/
theorem scales_at (r : Fin 70) (i : Fin 128) (j : Fin 11) :
    k0_pay7 (F := Ideal) (k0_pay3 (F := Ideal) x xs w s) (k0_pay4 (F := Ideal) x xs w s) (Scalar.ofBits .f32 0xC2FC0000#32) (ix4 r i j 0)
      = scaleR a0 a1 a2 a3 e r i j := by
  refine (pay7_at _ _ _ (exps_at hx hxs hw hs r i j)).trans ?_
  unfold scaleR
  exact congrArg (fun q => Ideal.exp2 (Cert.Quant.rexp q)) (maxes_at hx hxs hw hs r i j)
end values

section arrays
variable (m : (ℓ : Loc nD τ sig) → Buf (Elt Ideal) ℓ) (c : Dev nD)

/-- The one grid point's block of window 0 is the whole buffer. -/
theorem block0 : iblk m c 0 t0_0 = V m c main_v9 := by
  have h : win0_0.index t0_0 = fun _ => 0 := by decide +kernel
  funext y
  blk_point [iblk, h]

/-- The one grid point's block of window 1 is the whole buffer. -/
theorem block1 : iblk m c 1 t0_0 = V m c main_v10 := by
  have h : win0_1.index t0_0 = fun _ => 0 := by decide +kernel
  funext y
  blk_point [iblk, h]

/-- The one grid point's block of window 2 is the whole buffer. -/
theorem block2 : iblk m c 2 t0_0 = V m c main_v4 := by
  have h : win0_2.index t0_0 = fun _ => 0 := by decide +kernel
  funext y
  blk_point [iblk, h]

/-- The one grid point's block of window 3 is the whole buffer. -/
theorem block3 : iblk m c 3 t0_0 = V m c main_v5 := by
  have h : win0_3.index t0_0 = fun _ => 0 := by decide +kernel
  funext y
  blk_point [iblk, h]

/-- The one grid point's block of window 4 is the whole buffer. -/
theorem block4 : iblk m c 4 t0_0 = V m c main_v7 := by
  have h : win0_4.index t0_0 = fun _ => 0 := by decide +kernel
  funext y
  blk_point [iblk, h]

/-- The one grid point's block of window 5 is the whole buffer. -/
theorem block5 : iblk m c 5 t0_0 = V m c main_v8 := by
  have h : win0_5.index t0_0 = fun _ => 0 := by decide +kernel
  funext y
  blk_point [iblk, h]

variable {e : Fin 70 → Fin 64} (he : Cert.Route.Sends (m ((c : Thread nD τ).loc main_arg6)) e)

include he in
/-- Result 1's array after the run. -/
theorem array6 : (dats m 0 c).arrAt 6 cfg0.N = fun y : S8960x2048.Idx =>
    outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) e ⟨(y 0).val / 128, by have h : (y 0).val < 8960 := (y 0).isLt; omega⟩ ⟨(y 0).val % 128, by omega⟩ (y 1) := by
  refine (dats m 0 c).arrAt_eq_of_after_last 6 t0_0 (by decide +kernel) _ fun y => ?_
  blk_simp
  rw [after0_6, block0, block1, block2, block3, block4, block5]
  have hx := x_at m c
  have hxs := xs_at m c
  have hw := w1_at m c he
  have hs := s1_at m c he
  have hw2 := w2_at m c he
  have hs2 := s2_at m c he
  generalize V m c main_v9 = x at hx ⊢
  generalize V m c main_v10 = xs at hxs ⊢
  generalize V m c main_v4 = w at hw ⊢
  generalize V m c main_v5 = s at hs ⊢
  generalize V m c main_v7 = w2 at hw2 ⊢
  generalize V m c main_v8 = s2 at hs2 ⊢
  frame_out
  rw [hidden_eq, maxes_eq, exps_eq]
  have h0 : (y (0 : Fin 2)).val < 8960 := (y (0 : Fin 2)).isLt
  exact pay8_at w2 s2 _ _ _ ⟨(y (0 : Fin 2)).val / 128, by omega⟩ ⟨(y (0 : Fin 2)).val % 128, by omega⟩ (y (1 : Fin 2)) y (by dsimp only; omega) rfl
    (fun j n => codes_at hx hxs hw hs _ _ j n) (fun j => scales_at hx hxs hw hs _ _ j) (hw2 _) (hs2 _)

include he in
/-- Result 2's array after the run. -/
theorem array7 : (dats m 0 c).arrAt 7 cfg0.N = fun y : S8960x1408.Idx =>
    codeR (m ((c : Thread nD τ).loc main_arg0)) (m ((c : Thread nD τ).loc main_arg1)) (m ((c : Thread nD τ).loc main_arg2)) (m ((c : Thread nD τ).loc main_arg3)) e ⟨(y 0).val / 128, by have h : (y 0).val < 8960 := (y 0).isLt; omega⟩ ⟨(y 0).val % 128, by omega⟩ (y 1) := by
  refine (dats m 0 c).arrAt_eq_of_after_last 7 t0_0 (by decide +kernel) _ fun y => ?_
  blk_simp
  rw [after0_7, block0, block1, block2, block3, block4, block5]
  have hx := x_at m c
  have hxs := xs_at m c
  have hw := w1_at m c he
  have hs := s1_at m c he
  have hw2 := w2_at m c he
  have hs2 := s2_at m c he
  generalize V m c main_v9 = x at hx ⊢
  generalize V m c main_v10 = xs at hxs ⊢
  generalize V m c main_v4 = w at hw ⊢
  generalize V m c main_v5 = s at hs ⊢
  generalize V m c main_v7 = w2 at hw2 ⊢
  generalize V m c main_v8 = s2 at hs2 ⊢
  frame_out
  rw [hidden_eq, maxes_eq, exps_eq]
  refine (pay9_at _ _ _ y).trans ((codes_at hx hxs hw hs _ _ _ _).trans ?_)
  exact congrArg _ (Fin.ext (by dsimp only; omega))

include he in
/-- Result 3's array after the run. -/
theorem array8 : (dats m 0 c).arrAt 8 cfg0.N = fun y : S8960x11.Idx =>
    scaleR (m ((c : Thread nD τ).loc main_arg0)) (m ((c : Thread nD τ).loc main_arg1)) (m ((c : Thread nD τ).loc main_arg2)) (m ((c : Thread nD τ).loc main_arg3)) e ⟨(y 0).val / 128, by have h : (y 0).val < 8960 := (y 0).isLt; omega⟩ ⟨(y 0).val % 128, by omega⟩ (y 1) := by
  refine (dats m 0 c).arrAt_eq_of_after_last 8 t0_0 (by decide +kernel) _ fun y => ?_
  blk_simp
  rw [after0_8, block0, block1, block2, block3, block4, block5]
  have hx := x_at m c
  have hxs := xs_at m c
  have hw := w1_at m c he
  have hs := s1_at m c he
  have hw2 := w2_at m c he
  have hs2 := s2_at m c he
  generalize V m c main_v9 = x at hx ⊢
  generalize V m c main_v10 = xs at hxs ⊢
  generalize V m c main_v4 = w at hw ⊢
  generalize V m c main_v5 = s at hs ⊢
  generalize V m c main_v7 = w2 at hw2 ⊢
  generalize V m c main_v8 = s2 at hs2 ⊢
  frame_out
  rw [maxes_eq, exps_eq]
  exact (pay1_at _ y).trans (scales_at hx hxs hw hs _ _ _)

end arrays

end Cert.ReferenceIdeal.Gen
end
-- ==== Proof.lean ====
module

public import proofs.«01_k».proof.Defs
public import proofs.«01_k».proof.Proof.FrmK
public import proofs.«01_k».proof.Proof.Frm
public import proofs.«01_k».proof.Proof.Gen.ReferenceIdeal.Frame
public import proofs.«01_k».proof.Proof.Gen.ReferenceIdeal.Value
public import proofs.«01_k».proof.Proof.OkK
public import proofs.«01_k».proof.Proof.Ok
public import proofs.«01_k».proof.Proof.KArr
public import proofs.«01_k».proof.Proof.RBlock
public import Idealize.ShloMosaic.Adequacy
public import Idealize.ShloMosaic.Init

@[expose] public section

noncomputable section

namespace Cert.Proof

open Idealize.ShloMosaic Idealize.SL.Sem

/-- The pipeline's side condition of the kernel's prefetched table, from the precondition. -/
theorem ok_kernel (m : (ℓ : Loc Cert.Kernel.nD Cert.Kernel.τ Cert.Kernel.sig) → Buf (Elt Bits) ℓ) (h : Cert.Pre_Kernel m) :
    Cert.Kernel.Gen.Ok m :=
  (Cert.Route.sends_of_pre (h 0)).elim fun _ he => Cert.Kernel.Gen.ok_of_sends m he

/-- The pipeline's side condition of the idealized kernel's prefetched table, from the precondition. -/
theorem ok_kernelIdeal (m : (ℓ : Loc Cert.KernelIdeal.nD Cert.KernelIdeal.τ Cert.KernelIdeal.sig) → Buf (Elt Ideal) ℓ) (h : Cert.Pre_KernelIdeal m) :
    Cert.KernelIdeal.Gen.Ok m :=
  (Cert.Route.sends_of_pre (h 0)).elim fun _ he => Cert.KernelIdeal.Gen.ok_of_sends m he

/-- The idealized kernel's run: the three result arrays named, the arguments unchanged. -/
theorem kernel_run (m : (ℓ : Loc Cert.KernelIdeal.nD Cert.KernelIdeal.τ Cert.KernelIdeal.sig) → Buf (Elt Ideal) ℓ)
    (g : Dev Cert.KernelIdeal.nD → PrngReg) (hO : Cert.KernelIdeal.Gen.Ok m) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
          r.2.mem ((c.tc : Thread Cert.KernelIdeal.nD Cert.KernelIdeal.τ).loc Cert.KernelIdeal.main_v9_0) = (Cert.KernelIdeal.Gen.dats m hO 0 c).arrAt 6 (Cert.KernelIdeal.Gen.cfgM m hO).N
          ∧ r.2.mem ((c.tc : Thread Cert.KernelIdeal.nD Cert.KernelIdeal.τ).loc Cert.KernelIdeal.main_v9_1) = (Cert.KernelIdeal.Gen.dats m hO 0 c).arrAt 7 (Cert.KernelIdeal.Gen.cfgM m hO).N
          ∧ r.2.mem ((c.tc : Thread Cert.KernelIdeal.nD Cert.KernelIdeal.τ).loc Cert.KernelIdeal.main_v9_2) = (Cert.KernelIdeal.Gen.dats m hO 0 c).arrAt 8 (Cert.KernelIdeal.Gen.cfgM m hO).N)
        ∧ ∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  θ_run_and ((θ_run _ _ _).mono (fun _ h c => ⟨(h c).1 6, (h c).1 7, (h c).1 8⟩) (Cert.KernelIdeal.Gen.run_main m g hO))
    (Cert.KernelIdeal.Gen.unchanged m g hO)

/-- The reference's three results at every index are the idealized kernel's, of the same arguments. -/
theorem algebraic : Cert.algebraic_KernelIdeal_ReferenceIdeal (hKernelIdeal := Cert.KernelIdeal.Gen.facts)
    (hReferenceIdeal := Cert.ReferenceIdeal.Gen.facts) (hPre_routed := Cert.Pre_routed.Gen.facts) := by
  intro m g m' g' h hm
  obtain ⟨e, he⟩ := Cert.Route.sends_of_pre (h 0)
  have hO := ok_kernelIdeal m h
  have he' : ∀ c : Dev Cert.ReferenceIdeal.nD, Cert.Route.Sends (m' ((c.tc : Thread Cert.ReferenceIdeal.nD Cert.ReferenceIdeal.τ).loc Cert.ReferenceIdeal.main_arg6)) e := by
    intro c
    obtain rfl : c = 0 := Subsingleton.elim _ _
    rw [(hm 0).2.2.2.2.2.2]
    exact he
  refine ⟨fun c => (Cert.KernelIdeal.Gen.dats m hO 0 c).arrAt 6 (Cert.KernelIdeal.Gen.cfgM m hO).N,
    fun c => (Cert.KernelIdeal.Gen.dats m hO 0 c).arrAt 7 (Cert.KernelIdeal.Gen.cfgM m hO).N,
    fun c => (Cert.KernelIdeal.Gen.dats m hO 0 c).arrAt 8 (Cert.KernelIdeal.Gen.cfgM m hO).N,
    (θ_run _ _ _).mono (fun r h c => ⟨(h.1 c).1, (h.1 c).2.1, (h.1 c).2.2, h.2 c⟩) (kernel_run m g hO),
    (θ_run _ _ _).mono (fun r h c => ?_) (Cert.ReferenceIdeal.Value.run_blocks m' g')⟩
  obtain ⟨h6, h7, h8, hrest⟩ := h c
  obtain ⟨m0, m1, m2, m3, m4, m5, m6⟩ := hm c
  refine ⟨h6.trans ?_, h7.trans ?_, h8.trans ?_, hrest⟩
  · rw [Cert.ReferenceIdeal.Gen.array6 m' c (he' c), m0, m1, m2, m3, m4, m5]
    exact (Cert.KernelIdeal.Gen.array6 m hO c he).symm
  · rw [Cert.ReferenceIdeal.Gen.array7 m' c (he' c), m0, m1, m2, m3]
    exact (Cert.KernelIdeal.Gen.array7 m hO c he).symm
  · rw [Cert.ReferenceIdeal.Gen.array8 m' c (he' c), m0, m1, m2, m3]
    exact (Cert.KernelIdeal.Gen.array8 m hO c he).symm

/-- Everything the certificate claims. -/
theorem claim : Cert.Claim :=
  ⟨Cert.Kernel.Gen.facts, Cert.KernelIdeal.Gen.facts, Cert.ReferenceIdeal.Gen.facts, Cert.Pre_routed.Gen.facts,
    fun m ρ h => Cert.Kernel.Gen.frame m ρ (ok_kernel m h), fun m ρ h => Cert.KernelIdeal.Gen.frame m ρ (ok_kernelIdeal m h),
    fun m ρ _ => Cert.ReferenceIdeal.Gen.frame m ρ, fun m ρ _ => Cert.ReferenceIdeal.Gen.frame m ρ, trivial, algebraic⟩

end Cert.Proof

end
